-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "exp2_scale" .f32 0x3DD53B95#32 ((((Real.sqrt 192) * (Real.log 2))⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S8x4x32768 : Shape := ⟨3, ![8, 4, 32768]⟩
abbrev S8x4x64x64 : Shape := ⟨4, ![8, 4, 64, 64]⟩
abbrev S8x131072x512 : Shape := ⟨3, ![8, 131072, 512]⟩
abbrev S8x131072 : Shape := ⟨2, ![8, 131072]⟩
abbrev S8x131072x64 : Shape := ⟨3, ![8, 131072, 64]⟩
abbrev S8 : Shape := ⟨1, ![8]⟩
abbrev S8x4x512 : Shape := ⟨3, ![8, 4, 512]⟩
abbrev S8x4 : Shape := ⟨2, ![8, 4]⟩
abbrev S8x4x64 : Shape := ⟨3, ![8, 4, 64]⟩
abbrev S_ : Shape := ⟨0, ![]⟩

class Facts : Prop where
  bcast_S_S8x4x32768 : S_.BroadcastsInDim S8x4x32768 (![] : Fin 0 → Fin S8x4x32768.rank)
  bcast_S_S8x4x64x64 : S_.BroadcastsInDim S8x4x64x64 (![] : Fin 0 → Fin S8x4x64x64.rank)
  bcast_S_S8x131072x512 : S_.BroadcastsInDim S8x131072x512 (![] : Fin 0 → Fin S8x131072x512.rank)
  bcast_S_S8x131072 : S_.BroadcastsInDim S8x131072 (![] : Fin 0 → Fin S8x131072.rank)
  bcast_S_S8x131072x64 : S_.BroadcastsInDim S8x131072x64 (![] : Fin 0 → Fin S8x131072x64.rank)
  bcast_S_S8 : S_.BroadcastsInDim S8 (![] : Fin 0 → Fin S8.rank)
  bcast_S_S8x4x512 : S_.BroadcastsInDim S8x4x512 (![] : Fin 0 → Fin S8x4x512.rank)
  bcast_S_S8x4 : S_.BroadcastsInDim S8x4 (![] : Fin 0 → Fin S8x4.rank)
  bcast_S_S8x4x64 : S_.BroadcastsInDim S8x4x64 (![] : Fin 0 → Fin S8x4x64.rank)

variable [Facts]

def fn_part1 {F : FTy → Type} [FloatOps F] (main_arg7 : FVec F S8x4 .f32) (main_arg8 : FVec F S8x4x64 .bf16) (main_v2 : IVec S8x4x32768 1) (main_v5 : IVec S8x4x64x64 1) (main_v8 : IVec S8x131072x512 1) (main_v11 : IVec S8x131072 1) (main_v14 : IVec S8x131072x64 1) (main_v16 : IVec S8 1) (main_v17 : FVec F S8x4x512 .f32) : IVec S8x4x32768 1 × IVec S8x4x64x64 1 × IVec S8x131072x512 1 × IVec S8x131072 1 × IVec S8x131072x64 1 × IVec S8 1 × IVec S8x4x512 1 × IVec S8x4 1 × IVec S8x4x64 1 :=
  let main_cst_4 : FVec F S_ .f32 := constant S_ .f32 0x7F800000#32
  let main_v18 : FVec F S8x4x512 .f32 := broadcastInDim S8x4x512 ![] bcast_S_S8x4x512 main_cst_4
  let main_v19 : IVec S8x4x512 1 := cmpf .olt main_v17 main_v18
  let main_v20 : FVec F S8x4 .f32 := Host.absf main_arg7
  let main_cst_5 : FVec F S_ .f32 := constant S_ .f32 0x7F800000#32
  let main_v21 : FVec F S8x4 .f32 := broadcastInDim S8x4 ![] bcast_S_S8x4 main_cst_5
  let main_v22 : IVec S8x4 1 := cmpf .olt main_v20 main_v21
  let main_v23 : FVec F S8x4x64 .bf16 := Host.absf main_arg8
  let main_cst_6 : FVec F S_ .bf16 := constant S_ .bf16 0x7F80#16
  let main_v24 : FVec F S8x4x64 .bf16 := broadcastInDim S8x4x64 ![] bcast_S_S8x4x64 main_cst_6
  let main_v25 : IVec S8x4x64 1 := cmpf .olt main_v23 main_v24
  (main_v2, main_v5, main_v8, main_v11, main_v14, main_v16, main_v19, main_v22, main_v25)

def fn {F : FTy → Type} [FloatOps F] (main_arg0 : FVec F S8x4x32768 .bf16) (main_arg1 : FVec F S8x4x64x64 .bf16) (main_arg2 : FVec F S8x131072x512 .f32) (main_arg3 : FVec F S8x131072 .f32) (main_arg4 : FVec F S8x131072x64 .bf16) (main_arg5 : IVec S8 32) (main_arg6 : FVec F S8x4x512 .f32) (main_arg7 : FVec F S8x4 .f32) (main_arg8 : FVec F S8x4x64 .bf16) : IVec S8x4x32768 1 × IVec S8x4x64x64 1 × IVec S8x131072x512 1 × IVec S8x131072 1 × IVec S8x131072x64 1 × IVec S8 1 × IVec S8x4x512 1 × IVec S8x4 1 × IVec S8x4x64 1 :=
  let main_v0 : FVec F S8x4x32768 .bf16 := Host.absf main_arg0
  let main_cst : FVec F S_ .bf16 := constant S_ .bf16 0x7F80#16
  let main_v1 : FVec F S8x4x32768 .bf16 := broadcastInDim S8x4x32768 ![] bcast_S_S8x4x32768 main_cst
  let main_v2 : IVec S8x4x32768 1 := cmpf .olt main_v0 main_v1
  let main_v3 : FVec F S8x4x64x64 .bf16 := Host.absf main_arg1
  let main_cst_0 : FVec F S_ .bf16 := constant S_ .bf16 0x7F80#16
  let main_v4 : FVec F S8x4x64x64 .bf16 := broadcastInDim S8x4x64x64 ![] bcast_S_S8x4x64x64 main_cst_0
  let main_v5 : IVec S8x4x64x64 1 := cmpf .olt main_v3 main_v4
  let main_v6 : FVec F S8x131072x512 .f32 := Host.absf main_arg2
  let main_cst_1 : FVec F S_ .f32 := constant S_ .f32 0x7F800000#32
  let main_v7 : FVec F S8x131072x512 .f32 := broadcastInDim S8x131072x512 ![] bcast_S_S8x131072x512 main_cst_1
  let main_v8 : IVec S8x131072x512 1 := cmpf .olt main_v6 main_v7
  let main_v9 : FVec F S8x131072 .f32 := Host.absf main_arg3
  let main_cst_2 : FVec F S_ .f32 := constant S_ .f32 0x7F800000#32
  let main_v10 : FVec F S8x131072 .f32 := broadcastInDim S8x131072 ![] bcast_S_S8x131072 main_cst_2
  let main_v11 : IVec S8x131072 1 := cmpf .olt main_v9 main_v10
  let main_v12 : FVec F S8x131072x64 .bf16 := Host.absf main_arg4
  let main_cst_3 : FVec F S_ .bf16 := constant S_ .bf16 0x7F80#16
  let main_v13 : FVec F S8x131072x64 .bf16 := broadcastInDim S8x131072x64 ![] bcast_S_S8x131072x64 main_cst_3
  let main_v14 : IVec S8x131072x64 1 := cmpf .olt main_v12 main_v13
  let main_c : IVec S_ 32 := constantI S_ 32 2147482624#32
  let main_v15 : IVec S8 32 := broadcastInDim S8 ![] bcast_S_S8 main_c
  let main_v16 : IVec S8 1 := cmpi .sle main_arg5 main_v15
  let main_v17 : FVec F S8x4x512 .f32 := Host.absf main_arg6
  fn_part1 (F := F) main_arg7 main_arg8 main_v2 main_v5 main_v8 main_v11 main_v14 main_v16 main_v17
-- ==== Kernel.lean ====
abbrev S8x4x32768 : Shape := ⟨3, ![8, 4, 32768]⟩
abbrev S8x4x64x64 : Shape := ⟨4, ![8, 4, 64, 64]⟩
abbrev S8x131072x512 : Shape := ⟨3, ![8, 131072, 512]⟩
abbrev S8x131072 : Shape := ⟨2, ![8, 131072]⟩
abbrev S8x131072x64 : Shape := ⟨3, ![8, 131072, 64]⟩
abbrev S8 : Shape := ⟨1, ![8]⟩
abbrev S8x4x512 : Shape := ⟨3, ![8, 4, 512]⟩
abbrev S8x4 : Shape := ⟨2, ![8, 4]⟩
abbrev S8x4x64 : Shape := ⟨3, ![8, 4, 64]⟩
abbrev S8x256x512 : Shape := ⟨3, ![8, 256, 512]⟩
abbrev S8x256x64 : Shape := ⟨3, ![8, 256, 64]⟩
abbrev S_ : Shape := ⟨0, ![]⟩
abbrev S8x128 : Shape := ⟨2, ![8, 128]⟩
abbrev S8x128x64 : Shape := ⟨3, ![8, 128, 64]⟩
abbrev S1x256x512 : Shape := ⟨3, ![1, 256, 512]⟩
abbrev S1x256x64 : Shape := ⟨3, ![1, 256, 64]⟩
abbrev S1x1024x512 : Shape := ⟨3, ![1, 1024, 512]⟩
abbrev S1 : Shape := ⟨1, ![1]⟩
abbrev S8x1024 : Shape := ⟨2, ![8, 1024]⟩
abbrev S1x1024x64 : Shape := ⟨3, ![1, 1024, 64]⟩
abbrev S1x4x512 : Shape := ⟨3, ![1, 4, 512]⟩
abbrev S1x128x64 : Shape := ⟨3, ![1, 128, 64]⟩
abbrev S256x128 : Shape := ⟨2, ![256, 128]⟩
abbrev S256x512 : Shape := ⟨2, ![256, 512]⟩
abbrev S4x512 : Shape := ⟨2, ![4, 512]⟩
abbrev S124x512 : Shape := ⟨2, ![124, 512]⟩
abbrev S128x512 : Shape := ⟨2, ![128, 512]⟩
abbrev S1x128 : Shape := ⟨2, ![1, 128]⟩
abbrev S128x64 : Shape := ⟨2, ![128, 64]⟩
abbrev S256x64 : Shape := ⟨2, ![256, 64]⟩
abbrev S256 : Shape := ⟨1, ![256]⟩
abbrev S256x1 : Shape := ⟨2, ![256, 1]⟩
abbrev S256x1024 : Shape := ⟨2, ![256, 1024]⟩
abbrev S1024x512 : Shape := ⟨2, ![1024, 512]⟩
abbrev S1x1024 : Shape := ⟨2, ![1, 1024]⟩
abbrev S1024x64 : Shape := ⟨2, ![1024, 64]⟩

abbrev nBuf : Space → Nat
  | .hbm => 19
  | .vmem => 20
  | .smem => 1
  | _ => 0

abbrev bufTy : (tb : Table) → Fin (tcTables nBuf tb) → BufTy
  | .hbm, ⟨0, _⟩ => ⟨S8x4x32768, .bf16⟩
  | .hbm, ⟨1, _⟩ => ⟨S8x4x64x64, .bf16⟩
  | .hbm, ⟨2, _⟩ => ⟨S8x131072x512, .f32⟩
  | .hbm, ⟨3, _⟩ => ⟨S8x131072, .f32⟩
  | .hbm, ⟨4, _⟩ => ⟨S8x131072x64, .bf16⟩
  | .hbm, ⟨5, _⟩ => ⟨S8x4x512, .f32⟩
  | .hbm, ⟨6, _⟩ => ⟨S8x4, .f32⟩
  | .hbm, ⟨7, _⟩ => ⟨S8x4x64, .bf16⟩
  | .hbm, ⟨8, _⟩ => ⟨S8x256x512, .bf16⟩
  | .hbm, ⟨9, _⟩ => ⟨S8x256x64, .bf16⟩
  | .hbm, ⟨10, _⟩ => ⟨S_, .i32⟩
  | .hbm, ⟨11, _⟩ => ⟨S_, .f32⟩
  | .hbm, ⟨12, _⟩ => ⟨S8x128, .f32⟩
  | .hbm, ⟨13, _⟩ => ⟨S_, .i32⟩
  | .hbm, ⟨14, _⟩ => ⟨S_, .bf16⟩
  | .hbm, ⟨15, _⟩ => ⟨S8x128x64, .bf16⟩
  | .hbm, ⟨16, _⟩ => ⟨S8x131072x512, .fp8e4m3⟩
  | .hbm, ⟨17, _⟩ => ⟨S8x4x512, .fp8e4m3⟩
  | .hbm, ⟨18, _⟩ => ⟨S8x256x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x64, .bf16⟩
  | .local _ .vmem, ⟨3, _⟩ => ⟨S1x256x64, .bf16⟩
  | .local _ .vmem, ⟨4, _⟩ => ⟨S1x1024x512, .fp8e4m3⟩
  | .local _ .vmem, ⟨5, _⟩ => ⟨S1x1024x512, .fp8e4m3⟩
  | .local _ .vmem, ⟨6, _⟩ => ⟨S8x1024, .f32⟩
  | .local _ .vmem, ⟨7, _⟩ => ⟨S8x1024, .f32⟩
  | .local _ .vmem, ⟨8, _⟩ => ⟨S1x1024x64, .bf16⟩
  | .local _ .vmem, ⟨9, _⟩ => ⟨S1x1024x64, .bf16⟩
  | .local _ .vmem, ⟨10, _⟩ => ⟨S1x4x512, .fp8e4m3⟩
  | .local _ .vmem, ⟨11, _⟩ => ⟨S1x4x512, .fp8e4m3⟩
  | .local _ .vmem, ⟨12, _⟩ => ⟨S8x128, .f32⟩
  | .local _ .vmem, ⟨13, _⟩ => ⟨S1x128x64, .bf16⟩
  | .local _ .vmem, ⟨14, _⟩ => ⟨S1x128x64, .bf16⟩
  | .local _ .vmem, ⟨15, _⟩ => ⟨S1x256x512, .bf16⟩
  | .local _ .vmem, ⟨16, _⟩ => ⟨S1x256x512, .bf16⟩
  | .local _ .vmem, ⟨17, _⟩ => ⟨S256x128, .f32⟩
  | .local _ .vmem, ⟨18, _⟩ => ⟨S256x128, .f32⟩
  | .local _ .vmem, ⟨19, _⟩ => ⟨S256x512, .f32⟩
  | .local _ .smem, ⟨0, _⟩ => ⟨S8, .i32⟩
  | _, _ => ⟨S8x4x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 128], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_off2 (i : grid0.Coords) : Fin 2 → Nat :=
  let arg0 : BitVec 32 := BitVec.ofNat 32 (i 0).val
  let v31 : Index := Scalar.indexCast arg0
  let c0_14 : Index := 0#32
  ![v31.toNat, 0]
def k0_off3 (i : grid0.Coords) : Fin 2 → Nat :=
  let arg0 : BitVec 32 := BitVec.ofNat 32 (i 0).val
  let v16 : Index := Scalar.indexCast arg0
  let c0_5 : Index := 0#32
  ![v16.toNat, 0]
def k0_cond3 (i : grid0.Coords) : BitVec 1 :=
  let arg1 : BitVec 32 := BitVec.ofNat 32 (i 1).val
  let c127_i32 : BitVec 32 := 127#32
  let v10 : BitVec 1 := Scalar.cmpi .eq arg1 c127_i32
  let v11 : BitVec 32 := Scalar.extui v10
  let c0_i32_2 : BitVec 32 := 0#32
  let v12 : BitVec 1 := Scalar.cmpi .ne v11 c0_i32_2
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1023_i32 : BitVec 32 := 1023#32
  let v2 : BitVec 32 := Scalar.addi v1 c1023_i32
  let c1024_i32 : BitVec 32 := 1024#32
  let v3 : BitVec 32 := Scalar.divsi v2 c1024_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_3 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1023_i32 : BitVec 32 := 1023#32
  let v2 : BitVec 32 := Scalar.addi v1 c1023_i32
  let c1024_i32 : BitVec 32 := 1024#32
  let v3 : BitVec 32 := Scalar.divsi v2 c1024_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![c0_i32_0.toNat, v6.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c1023_i32 : BitVec 32 := 1023#32
  let v2 : BitVec 32 := Scalar.addi v1 c1023_i32
  let c1024_i32 : BitVec 32 := 1024#32
  let v3 : BitVec 32 := Scalar.divsi v2 c1024_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "exp2_scale" => some ((((Real.sqrt 192) * (Real.log 2))⁻¹ : ℝ) : EReal)
  | _ => none
-- ==== ReferenceIdeal.lean ====
abbrev S8x4x32768 : Shape := ⟨3, ![8, 4, 32768]⟩
abbrev S8x4x64x64 : Shape := ⟨4, ![8, 4, 64, 64]⟩
abbrev S8x131072x512 : Shape := ⟨3, ![8, 131072, 512]⟩
abbrev S8x131072 : Shape := ⟨2, ![8, 131072]⟩
abbrev S8x131072x64 : Shape := ⟨3, ![8, 131072, 64]⟩
abbrev S8 : Shape := ⟨1, ![8]⟩
abbrev S8x4x512 : Shape := ⟨3, ![8, 4, 512]⟩
abbrev S8x4 : Shape := ⟨2, ![8, 4]⟩
abbrev S8x4x64 : Shape := ⟨3, ![8, 4, 64]⟩
abbrev S8x4x64x512 : Shape := ⟨4, ![8, 4, 64, 512]⟩
abbrev S_ : Shape := ⟨0, ![]⟩
abbrev S8x1x1x131072 : Shape := ⟨4, ![8, 1, 1, 131072]⟩
abbrev S8x1x1x4 : Shape := ⟨4, ![8, 1, 1, 4]⟩
abbrev S8x4x64x131072 : Shape := ⟨4, ![8, 4, 64, 131072]⟩
abbrev S8x4x64x4 : Shape := ⟨4, ![8, 4, 64, 4]⟩
abbrev S131072 : Shape := ⟨1, ![131072]⟩
abbrev S1x131072 : Shape := ⟨2, ![1, 131072]⟩
abbrev S8x1 : Shape := ⟨2, ![8, 1]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S1x4x1x4 : Shape := ⟨4, ![1, 4, 1, 4]⟩
abbrev S8x4x64x1 : Shape := ⟨4, ![8, 4, 64, 1]⟩
abbrev S8x256x512 : Shape := ⟨3, ![8, 256, 512]⟩

abbrev nBuf : Space → Nat
  | .hbm => 96
  | .vmem => 4
  | .smem => 0
  | _ => 0

abbrev bufTy : (tb : Table) → Fin (tcTables nBuf tb) → BufTy
  | .hbm, ⟨0, _⟩ => ⟨S8x4x32768, .bf16⟩
  | .hbm, ⟨1, _⟩ => ⟨S8x4x64x64, .bf16⟩
  | .hbm, ⟨2, _⟩ => ⟨S8x131072x512, .f32⟩
  | .hbm, ⟨3, _⟩ => ⟨S8x131072, .f32⟩
  | .hbm, ⟨4, _⟩ => ⟨S8x131072x64, .bf16⟩
  | .hbm, ⟨5, _⟩ => ⟨S8, .i32⟩
  | .hbm, ⟨6, _⟩ => ⟨S8x4x512, .f32⟩
  | .hbm, ⟨7, _⟩ => ⟨S8x4, .f32⟩
  | .hbm, ⟨8, _⟩ => ⟨S8x4x64, .bf16⟩
  | .hbm, ⟨9, _⟩ => ⟨S8x4x64x512, .bf16⟩
  | .hbm, ⟨10, _⟩ => ⟨S8x131072x512, .fp8e4m3⟩
  | .hbm, ⟨11, _⟩ => ⟨S8x4x512, .fp8e4m3⟩
  | .hbm, ⟨12, _⟩ => ⟨S8x131072x512, .bf16⟩
  | .hbm, ⟨13, _⟩ => ⟨S8x4x512, .bf16⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8x1x1x131072, .f32⟩
  | .hbm, ⟨19, _⟩ => ⟨S8x1x1x4, .f32⟩
  | .hbm, ⟨20, _⟩ => ⟨S8x4x64x131072, .f32⟩
  | .hbm, ⟨21, _⟩ => ⟨S8x4x64x131072, .f32⟩
  | .hbm, ⟨22, _⟩ => ⟨S8x4x64x131072, .f32⟩
  | .hbm, ⟨23, _⟩ => ⟨S8x4x64x131072, .f32⟩
  | .hbm, ⟨24, _⟩ => ⟨S8x4x64x131072, .f32⟩
  | .hbm, ⟨25, _⟩ => ⟨S_, .f32⟩
  | .hbm, ⟨26, _⟩ => ⟨S8x4x64x131072, .f32⟩
  | .hbm, ⟨27, _⟩ => ⟨S8x4x64x131072, .f32⟩
  | .hbm, ⟨28, _⟩ => ⟨S8x4x64x4, .f32⟩
  | .hbm, ⟨29, _⟩ => ⟨S8x4x64x4, .f32⟩
  | .hbm, ⟨30, _⟩ => ⟨S8x4x64x4, .f32⟩
  | .hbm, ⟨31, _⟩ => ⟨S8x4x64x4, .f32⟩
  | .hbm, ⟨32, _⟩ => ⟨S8x4x64x4, .f32⟩
  | .hbm, ⟨33, _⟩ => ⟨S_, .f32⟩
  | .hbm, ⟨34, _⟩ => ⟨S8x4x64x4, .f32⟩
  | .hbm, ⟨35, _⟩ => ⟨S8x4x64x4, .f32⟩
  | .hbm, ⟨36, _⟩ => ⟨S131072, .i32⟩
  | .hbm, ⟨37, _⟩ => ⟨S1x131072, .i32⟩
  | .hbm, ⟨38, _⟩ => ⟨S8x1, .i32⟩
  | .hbm, ⟨39, _⟩ => ⟨S8x131072, .i32⟩
  | .hbm, ⟨40, _⟩ => ⟨S8x131072, .i32⟩
  | .hbm, ⟨41, _⟩ => ⟨S8x131072, .i1⟩
  | .hbm, ⟨42, _⟩ => ⟨S8x1x1x131072, .i1⟩
  | .hbm, ⟨43, _⟩ => ⟨S_, .f32⟩
  | .hbm, ⟨44, _⟩ => ⟨S_, .f32⟩
  | .hbm, ⟨45, _⟩ => ⟨S8x4x64x131072, .i1⟩
  | .hbm, ⟨46, _⟩ => ⟨S8x4x64x131072, .f32⟩
  | .hbm, ⟨47, _⟩ => ⟨S8x4x64x131072, .f32⟩
  | .hbm, ⟨48, _⟩ => ⟨S4, .i32⟩
  | .hbm, ⟨49, _⟩ => ⟨S1x4, .i32⟩
  | .hbm, ⟨50, _⟩ => ⟨S4, .i32⟩
  | .hbm, ⟨51, _⟩ => ⟨S4x1, .i32⟩
  | .hbm, ⟨52, _⟩ => ⟨S4x4, .i32⟩
  | .hbm, ⟨53, _⟩ => ⟨S4x4, .i32⟩
  | .hbm, ⟨54, _⟩ => ⟨S4x4, .i1⟩
  | .hbm, ⟨55, _⟩ => ⟨S1x4x1x4, .i1⟩
  | .hbm, ⟨56, _⟩ => ⟨S_, .f32⟩
  | .hbm, ⟨57, _⟩ => ⟨S_, .f32⟩
  | .hbm, ⟨58, _⟩ => ⟨S8x4x64x4, .i1⟩
  | .hbm, ⟨59, _⟩ => ⟨S8x4x64x4, .f32⟩
  | .hbm, ⟨60, _⟩ => ⟨S8x4x64x4, .f32⟩
  | .hbm, ⟨61, _⟩ => ⟨S_, .f32⟩
  | .hbm, ⟨62, _⟩ => ⟨S8x4x64, .f32⟩
  | .hbm, ⟨63, _⟩ => ⟨S8x4x64x1, .f32⟩
  | .hbm, ⟨64, _⟩ => ⟨S_, .f32⟩
  | .hbm, ⟨65, _⟩ => ⟨S8x4x64, .f32⟩
  | .hbm, ⟨66, _⟩ => ⟨S8x4x64x1, .f32⟩
  | .hbm, ⟨67, _⟩ => ⟨S8x4x64x1, .f32⟩
  | .hbm, ⟨68, _⟩ => ⟨S8x4x64x131072, .f32⟩
  | .hbm, ⟨69, _⟩ => ⟨S8x4x64x131072, .f32⟩
  | .hbm, ⟨70, _⟩ => ⟨S8x4x64x131072, .f32⟩
  | .hbm, ⟨71, _⟩ => ⟨S8x4x64x4, .f32⟩
  | .hbm, ⟨72, _⟩ => ⟨S8x4x64x4, .f32⟩
  | .hbm, ⟨73, _⟩ => ⟨S8x4x64x4, .f32⟩
  | .hbm, ⟨74, _⟩ => ⟨S_, .f32⟩
  | .hbm, ⟨75, _⟩ => ⟨S8x4x64, .f32⟩
  | .hbm, ⟨76, _⟩ => ⟨S8x4x64x1, .f32⟩
  | .hbm, ⟨77, _⟩ => ⟨S_, .f32⟩
  | .hbm, ⟨78, _⟩ => ⟨S8x4x64, .f32⟩
  | .hbm, ⟨79, _⟩ => ⟨S8x4x64x1, .f32⟩
  | .hbm, ⟨80, _⟩ => ⟨S8x4x64x1, .f32⟩
  | .hbm, ⟨81, _⟩ => ⟨S8x4x64x131072, .f32⟩
  | .hbm, ⟨82, _⟩ => ⟨S8x4x64x131072, .f32⟩
  | .hbm, ⟨83, _⟩ => ⟨S8x4x64x131072, .f32⟩
  | .hbm, ⟨84, _⟩ => ⟨S8x4x64x131072, .f32⟩
  | .hbm, ⟨85, _⟩ => ⟨S8x4x64x131072, .bf16⟩
  | .hbm, ⟨86, _⟩ => ⟨S8x4x64x4, .f32⟩
  | .hbm, ⟨87, _⟩ => ⟨S8x4x64x4, .f32⟩
  | .hbm, ⟨88, _⟩ => ⟨S8x4x64x4, .f32⟩
  | .hbm, ⟨89, _⟩ => ⟨S8x4x64x4, .f32⟩
  | .hbm, ⟨90, _⟩ => ⟨S8x4x64x4, .bf16⟩
  | .hbm, ⟨91, _⟩ => ⟨S8x4x64x512, .f32⟩
  | .hbm, ⟨92, _⟩ => ⟨S8x4x64x512, .f32⟩
  | .hbm, ⟨93, _⟩ => ⟨S8x4x64x512, .f32⟩
  | .hbm, ⟨94, _⟩ => ⟨S8x4x64x512, .bf16⟩
  | .hbm, ⟨95, _⟩ => ⟨S8x256x512, .bf16⟩
  | .local _ .vmem, ⟨0, _⟩ => ⟨S8x131072x512, .fp8e4m3⟩
  | .local _ .vmem, ⟨1, _⟩ => ⟨S8x4x512, .fp8e4m3⟩
  | .local _ .vmem, ⟨2, _⟩ => ⟨S8x131072x512, .bf16⟩
  | .local _ .vmem, ⟨3, _⟩ => ⟨S8x4x512, .bf16⟩
  | _, _ => ⟨S8x4x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_2 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_5 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x131072x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x131072x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.FrameTopKernel.lean ====
/-
  The frame of the program `Kernel`, first part: what each case of the kernel's body leaves in the output's staging buffer and in the three
  scratch buffers it carries, and the recursion over the grid's points that selects the case (`outsAt0`).
  This is the text proofgen prints for this program, split in two, with the case lemmas of `outsAt0` (second part) proved by rewriting with
  the recursion's own equations: as printed, the unifier is left to unfold the recursion and does not finish.
-/
module

public import proofs.«01_k».proof.Proof.Gen.Kernel.Frame.RunF
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).1)

/-- Case A's pieces for scratch `arg12`, which the kernel carries between points, cover it: 3 pieces of `S256x128` tiling it (Lib/Ring.lean `Piece.tiledL`). -/
theorem scover0_A_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1 S256x128.size (by sl_kernel_rfl) y

/-- What case A leaves in scratch `arg12`: its pieces read back over junk. -/
def sout0_A_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1)

/-- Case A's pieces for scratch `arg13`, which the kernel carries between points, cover it: 3 pieces of `S256x128` tiling it (Lib/Ring.lean `Piece.tiledL`). -/
theorem scover0_A_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1 S256x128.size (by sl_kernel_rfl) y

/-- What case A leaves in scratch `arg13`: its pieces read back over junk. -/
def sout0_A_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1)

/-- Case A's pieces for scratch `arg14`, which the kernel carries between points, cover it: 3 pieces of `S256x512` tiling it (Lib/Ring.lean `Piece.tiledL`). -/
theorem scover0_A_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) (y : S256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1 S256x512.size (by sl_kernel_rfl) y

/-- What case A leaves in scratch `arg14`: its pieces read back over junk. -/
def sout0_A_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) : Vec F S256x512 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).1)

/-- Case B's pieces for scratch `arg12`, which the kernel carries between points, cover it: 2 pieces of `S256x128` tiling it (Lib/Ring.lean `Piece.tiledL`). -/
theorem scover0_B_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1 S256x128.size (by sl_kernel_rfl) y

/-- What case B leaves in scratch `arg12`: its pieces read back over junk. -/
def sout0_B_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1)

/-- Case B's pieces for scratch `arg13`, which the kernel carries between points, cover it: 2 pieces of `S256x128` tiling it (Lib/Ring.lean `Piece.tiledL`). -/
theorem scover0_B_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1 S256x128.size (by sl_kernel_rfl) y

/-- What case B leaves in scratch `arg13`: its pieces read back over junk. -/
def sout0_B_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1)

/-- Case B's pieces for scratch `arg14`, which the kernel carries between points, cover it: 2 pieces of `S256x512` tiling it (Lib/Ring.lean `Piece.tiledL`). -/
theorem scover0_B_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) (y : S256x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1 S256x512.size (by sl_kernel_rfl) y

/-- What case B leaves in scratch `arg14`: its pieces read back over junk. -/
def sout0_B_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x512 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1)

/-- Case C stores nothing into output 8 (the window is idle at its points and not written back there):
    no pieces — a placeholder (junk read back) that nothing consults, since at these points the window is neither
    written back nor read at the next point (Lib/Pipeline.lean "Idle points"). -/
def out0_C_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1)

/-- Case C's pieces for scratch `arg12`, which the kernel carries between points, cover it: 1 piece of `S256x128` tiling it (Lib/Ring.lean `Piece.tiledL`). -/
theorem scover0_C_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1 S256x128.size (by sl_kernel_rfl) y

/-- What case C leaves in scratch `arg12`: its pieces read back over junk. -/
def sout0_C_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1)

/-- Case C's pieces for scratch `arg13`, which the kernel carries between points, cover it: 1 piece of `S256x128` tiling it (Lib/Ring.lean `Piece.tiledL`). -/
theorem scover0_C_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1 S256x128.size (by sl_kernel_rfl) y

/-- What case C leaves in scratch `arg13`: its pieces read back over junk. -/
def sout0_C_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1)

/-- Case C's pieces for scratch `arg14`, which the kernel carries between points, cover it: 1 piece of `S256x512` tiling it (Lib/Ring.lean `Piece.tiledL`). -/
theorem scover0_C_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1 S256x512.size (by sl_kernel_rfl) y

/-- What case C leaves in scratch `arg14`: its pieces read back over junk. -/
def sout0_C_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x512 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1)

/-- Case D stores nothing into output 8 (the window is idle at its points and not written back there):
    no pieces — a placeholder (junk read back) that nothing consults, since at these points the window is neither
    written back nor read at the next point (Lib/Pipeline.lean "Idle points"). -/
def out0_D_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_D c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1)

/-- Case D stores nothing into scratch `arg12`: it holds what the point before left. -/
def sout0_D_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 := xs0

/-- Case D stores nothing into scratch `arg13`: it holds what the point before left. -/
def sout0_D_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 := xs1

/-- Case D stores nothing into scratch `arg14`: it holds what the point before left. -/
def sout0_D_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x512 .f32 := xs2

/-- Case E's pieces for output 8 tile its block (1 store of `S1x256x512`, checked by the kernel's evaluation: Lib/Ring.lean `Piece.tiledL`, linear in the pieces, through a loop's `@[irreducible]` trip theorem too), so they cover it. -/
theorem cover0_E_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S1x256x512.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1 S1x256x512.size (by sl_kernel_rfl) y

/-- What case E leaves in output 8's staging buffer: its pieces read back over junk. -/
def out0_E_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1)

/-- Case E's pieces for scratch `arg12`, which the kernel carries between points, cover it: 1 piece of `S256x128` tiling it (Lib/Ring.lean `Piece.tiledL`). -/
theorem scover0_E_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1 S256x128.size (by sl_kernel_rfl) y

/-- What case E leaves in scratch `arg12`: its pieces read back over junk. -/
def sout0_E_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_0.read (Elt F) (VS0_0.writes (Elt F) VS0_0.junk (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1)

/-- Case E's pieces for scratch `arg13`, which the kernel carries between points, cover it: 1 piece of `S256x128` tiling it (Lib/Ring.lean `Piece.tiledL`). -/
theorem scover0_E_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1 S256x128.size (by sl_kernel_rfl) y

/-- What case E leaves in scratch `arg13`: its pieces read back over junk. -/
def sout0_E_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_1.read (Elt F) (VS0_1.writes (Elt F) VS0_1.junk (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1)

/-- Case E's pieces for scratch `arg14`, which the kernel carries between points, cover it: 1 piece of `S256x512` tiling it (Lib/Ring.lean `Piece.tiledL`). -/
theorem scover0_E_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x512.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1 S256x512.size (by sl_kernel_rfl) y

/-- What case E leaves in scratch `arg14`: its pieces read back over junk. -/
def sout0_E_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x512 .f32 :=
  VS0_2.read (Elt F) (VS0_2.writes (Elt F) VS0_2.junk (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1)

/-- Case F's pieces for output 8 tile its block (1 store of `S1x256x512`, checked by the kernel's evaluation: Lib/Ring.lean `Piece.tiledL`, linear in the pieces, through a loop's `@[irreducible]` trip theorem too), so they cover it. -/
theorem cover0_F_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) (y : S1x256x512.Idx) :
    ∃ pc ∈ (kernelRun0_F c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1, y ∈ pc.1.set :=
  View.cover_of_tiledL (kernelRun0_F c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1 S1x256x512.size (by sl_kernel_rfl) y

/-- What case F leaves in output 8's staging buffer: its pieces read back over junk. -/
def out0_F_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_F c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1)

/-- Case F stores nothing into scratch `arg12`: it holds what the point before left. -/
def sout0_F_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 := xs0

/-- Case F stores nothing into scratch `arg13`: it holds what the point before left. -/
def sout0_F_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 := xs1

/-- Case F stores nothing into scratch `arg14`: it holds what the point before left. -/
def sout0_F_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x512 .f32 := xs2

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x256x512 .bf16 × Vec F S256x128 .f32 × Vec F S256x128 .f32 × Vec F S256x512 .f32
  | 0, hn => if h1 : cond0_1 (grid0.coords ⟨0, hn⟩) (tbM0_0.view.readAt (Elt F) (Rect.unit (s := S8) (k0_off1 (grid0.coords ⟨0, hn⟩)) S1.size (k0_off1_inb (grid0.coords ⟨0, hn⟩))).toLoadRect (tbl m 0) (Shape.Idx.first (numel1_S1.symm ▸ Nat.one_pos))) then
      (out0_A_8 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_A_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1)
    else
      (out0_B_8 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_B_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_B_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1)
  | n + 1, hn =>
    if h1 : cond0_1 (grid0.coords ⟨n + 1, hn⟩) (tbM0_0.view.readAt (Elt F) (Rect.unit (s := S8) (k0_off1 (grid0.coords ⟨n + 1, hn⟩)) S1.size (k0_off1_inb (grid0.coords ⟨n + 1, hn⟩))).toLoadRect (tbl m 0) (Shape.Idx.first (numel1_S1.symm ▸ Nat.one_pos))) then
      if h0 : (n + 1) % 128 = 0 then
        if h2 : (n + 1) % 128 = 127 then
          False.elim (by have hN : n + 1 < 1024 := lt_of_lt_of_eq hn (show (cfgM m hO).N = 1024 from N_0); omega)
        else
          (out0_A_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_A_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1)
      else
        if h2 : (n + 1) % 128 = 127 then
          (out0_E_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_E_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_E_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_E_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1)
        else
          (out0_C_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_C_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_C_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1)
    else
      if h0 : (n + 1) % 128 = 0 then
        if h2 : (n + 1) % 128 = 127 then
          False.elim (by have hN : n + 1 < 1024 := lt_of_lt_of_eq hn (show (cfgM m hO).N = 1024 from N_0); omega)
        else
          (out0_B_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_B_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1)
      else
        if h2 : (n + 1) % 128 = 127 then
          (out0_F_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_F_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_F_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_F_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1)
        else
          (out0_D_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_D_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_D_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1)

end Cert.Kernel.Gen

end
-- ==== Proof.FrameKernel.lean ====
/-
  The frame of the program `Kernel`, second part: the case lemmas of the recursion `outsAt0`, the proof data of the pipeline, the body
  obligation, the run and the frame. See the first part's header.
-/
module

public import proofs.«01_k».proof.Proof.FrameTopKernel

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- `outsAt0` at a point of case A: that case's contents. -/
theorem outsAt0_A (hO : Ok m) (c : Dev nD) (t : Fin (cfgM m hO).N) (h0 : t.val % 128 = 0) (h1 : cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : ¬t.val % 128 = 127) :
    outsAt0 m hO c t.val t.isLt = (out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1) := by
  obtain ⟨n, hn⟩ := t
  cases n with
  | zero => rw [outsAt0.eq_1, dif_pos h1]
  | succ n => rw [outsAt0.eq_2, dif_pos h1, dif_pos h0, dif_neg h2]

/-- `outsAt0` at a point of case B: that case's contents. -/
theorem outsAt0_B (hO : Ok m) (c : Dev nD) (t : Fin (cfgM m hO).N) (h0 : t.val % 128 = 0) (h1 : ¬cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : ¬t.val % 128 = 127) :
    outsAt0 m hO c t.val t.isLt = (out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1) := by
  obtain ⟨n, hn⟩ := t
  cases n with
  | zero => rw [outsAt0.eq_1, dif_neg h1]
  | succ n => rw [outsAt0.eq_2, dif_neg h1, dif_pos h0, dif_neg h2]

set_option maxHeartbeats 1000000 in
/-- `outsAt0` at a point of case C: that case's contents, over what the point before left. -/
theorem outsAt0_C (hO : Ok m) (c : Dev nD) (t : Fin (cfgM m hO).N) (h0 : ¬t.val % 128 = 0) (h1 : cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : ¬t.val % 128 = 127) :
    outsAt0 m hO c t.val t.isLt = (out0_C_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1) := by
  obtain ⟨n, hn⟩ := t
  cases n with
  | zero => exact (by exfalso; (try dsimp only at h0); exact absurd (Nat.zero_mod _) h0)
  | succ n => rw [outsAt0.eq_2, dif_pos h1, dif_neg h0, dif_neg h2]; simp only [Nat.add_one_sub_one]

set_option maxHeartbeats 1000000 in
/-- `outsAt0` at a point of case D: that case's contents, over what the point before left. -/
theorem outsAt0_D (hO : Ok m) (c : Dev nD) (t : Fin (cfgM m hO).N) (h0 : ¬t.val % 128 = 0) (h1 : ¬cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : ¬t.val % 128 = 127) :
    outsAt0 m hO c t.val t.isLt = (out0_D_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_D_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_D_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1) := by
  obtain ⟨n, hn⟩ := t
  cases n with
  | zero => exact (by exfalso; (try dsimp only at h0); exact absurd (Nat.zero_mod _) h0)
  | succ n => rw [outsAt0.eq_2, dif_neg h1, dif_neg h0, dif_neg h2]; simp only [Nat.add_one_sub_one]

set_option maxHeartbeats 1000000 in
/-- `outsAt0` at a point of case E: that case's contents, over what the point before left. -/
theorem outsAt0_E (hO : Ok m) (c : Dev nD) (t : Fin (cfgM m hO).N) (h0 : ¬t.val % 128 = 0) (h1 : cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : t.val % 128 = 127) :
    outsAt0 m hO c t.val t.isLt = (out0_E_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_E_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_E_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1) := by
  obtain ⟨n, hn⟩ := t
  cases n with
  | zero => exact (by exfalso; (try dsimp only at h0); exact absurd (Nat.zero_mod _) h0)
  | succ n => rw [outsAt0.eq_2, dif_pos h1, dif_neg h0, dif_pos h2]; simp only [Nat.add_one_sub_one]

set_option maxHeartbeats 1000000 in
/-- `outsAt0` at a point of case F: that case's contents, over what the point before left. -/
theorem outsAt0_F (hO : Ok m) (c : Dev nD) (t : Fin (cfgM m hO).N) (h0 : ¬t.val % 128 = 0) (h1 : ¬cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : t.val % 128 = 127) :
    outsAt0 m hO c t.val t.isLt = (out0_F_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_F_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_F_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1) := by
  obtain ⟨n, hn⟩ := t
  cases n with
  | zero => exact (by exfalso; (try dsimp only at h0); exact absurd (Nat.zero_mod _) h0)
  | succ n => rw [outsAt0.eq_2, dif_neg h1, dif_neg h0, dif_pos h2]; simp only [Nat.add_one_sub_one]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2.1) ∗ owns (c : Thread nD τ) scM0_2 fullShare ((outsAt0 m hO c (n - 1) (by omega)).2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 1024 := lt_of_lt_of_eq t.isLt (show (cfgM m hO).N = 1024 from N_0)
  by_cases h0 : t.val % 128 = 0
  · by_cases h1 : cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))
    · by_cases h2 : t.val % 128 = 127
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_A m hO t ((hcond0_0 t).mpr h0) (fun h => h2 ((hcond0_2 t).mp h))) (noFlush0_8_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0 sout0_A_1 sout0_A_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HS1]; · iexact HS1
          isplitl [HS2]; · iexact HS2
          isplitl [HT0]; · iexact HT0
          iintro ⟨H0, H1, H2, H3, H4, H5, H6, H7, H8, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
        · rw [PhiS_castSucc m hO c t, PhiS_pos m hO c _ _ hz, PhiT0_eq]
          rw [outsAt0_A m hO c t h0 h1 h2]
          unfold sout0_A_0 sout0_A_1 sout0_A_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexists _; iexact HS0
          isplitl [HS1]; · iexists _; iexact HS1
          isplitl [HS2]; · iexists _; iexact HS2
          isplitl [HT0]; · iexact HT0
          iintro ⟨H0, H1, H2, H3, H4, H5, H6, H7, H8, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
    · by_cases h2 : t.val % 128 = 127
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_B m hO t ((hcond0_0 t).mpr h0) (fun h => h2 ((hcond0_2 t).mp h))) (noFlush0_8_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0 sout0_B_1 sout0_B_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HS1]; · iexact HS1
          isplitl [HS2]; · iexact HS2
          isplitl [HT0]; · iexact HT0
          iintro ⟨H0, H1, H2, H3, H4, H5, H6, H7, H8, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
        · rw [PhiS_castSucc m hO c t, PhiS_pos m hO c _ _ hz, PhiT0_eq]
          rw [outsAt0_B m hO c t h0 h1 h2]
          unfold sout0_B_0 sout0_B_1 sout0_B_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexists _; iexact HS0
          isplitl [HS1]; · iexists _; iexact HS1
          isplitl [HS2]; · iexists _; iexact HS2
          isplitl [HT0]; · iexact HT0
          iintro ⟨H0, H1, H2, H3, H4, H5, H6, H7, H8, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
  · by_cases h1 : cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))
    · by_cases h2 : t.val % 128 = 127
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8_E m hO t (fun h => h0 ((hcond0_0 t).mp h)) ((hcond0_2 t).mpr h2)]; try rfl, after0_8]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_E m hO c t h0 h1 h2]
          unfold out0_E_8 sout0_E_0 sout0_E_1 sout0_E_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_E c (grid0.coords t) _ _ _ _ _ _ _ _ _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          isplitl [HS1]; · iexact HS1
          isplitl [HS2]; · iexact HS2
          isplitl [HT0]; · iexact HT0
          iintro ⟨H0, H1, H2, H3, H4, H5, H6, H7, ⟨%e8, H8⟩, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_E_0 c _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_E_1 c _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_E_2 c _ _ _ _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _; isplitr
          swap; · iexact H8
          ipureintro; exact View.read_writes_of_cover _ _ _ _ _ (cover0_E_8 c _ _ _ _ _ _ _ _ _ _ _ _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_C m hO t (fun h => h0 ((hcond0_0 t).mp h)) (fun h => h2 ((hcond0_2 t).mp h))) (noFlush0_8_C m hO t (fun h => h0 ((hcond0_0 t).mp h)) (fun h => h2 ((hcond0_2 t).mp h)))]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_C m hO c t h0 h1 h2]
          unfold sout0_C_0 sout0_C_1 sout0_C_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_C c (grid0.coords t) _ _ _ _ _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HS1]; · iexact HS1
          isplitl [HS2]; · iexact HS2
          isplitl [HT0]; · iexact HT0
          iintro ⟨H0, H1, H2, H3, H4, H5, H6, H7, H8, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
    · by_cases h2 : t.val % 128 = 127
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8_F m hO t (fun h => h0 ((hcond0_0 t).mp h)) ((hcond0_2 t).mpr h2)]; try rfl, after0_8]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_F m hO c t h0 h1 h2]
          unfold out0_F_8 sout0_F_0 sout0_F_1 sout0_F_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_F c (grid0.coords t) _ _ _ _ _ _ _ _ _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          isplitl [HS1]; · iexact HS1
          isplitl [HS2]; · iexact HS2
          isplitl [HT0]; · iexact HT0
          iintro ⟨H0, H1, H2, H3, H4, H5, H6, H7, ⟨%e8, H8⟩, HS0, HS1, HS2, HT0⟩
          isplitl [HS0 HS1 HS2 Hg HT0]
          · isplitl [HS0 HS1 HS2 Hg]
            · isplitl [HS0 HS1 HS2]
              · isplitl [HS0]
                · iexact HS0
                isplitl [HS1]
                · iexact HS1
                iexact HS2
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _; isplitr
          swap; · iexact H8
          ipureintro; exact View.read_writes_of_cover _ _ _ _ _ (cover0_F_8 c _ _ _ _ _ _ _ _ _ _ _ _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_D m hO t (fun h => h0 ((hcond0_0 t).mp h)) (fun h => h2 ((hcond0_2 t).mp h))) (noFlush0_8_D m hO t (fun h => h0 ((hcond0_0 t).mp h)) (fun h => h2 ((hcond0_2 t).mp h)))]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_D m hO c t h0 h1 h2]
          unfold sout0_D_0 sout0_D_1 sout0_D_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_D c (grid0.coords t) _ _ _ _ _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HS1]; · iexact HS1
          isplitl [HS2]; · iexact HS2
          isplitl [HT0]; · iexact HT0
          iintro ⟨H0, H1, H2, H3, H4, H5, H6, H7, H8, HS0, HS1, HS2, HT0⟩
          isplitl [HS0 HS1 HS2 Hg HT0]
          · isplitl [HS0 HS1 HS2 Hg]
            · isplitl [HS0 HS1 HS2]
              · isplitl [HS0]
                · iexact HS0
                isplitl [HS1]
                · iexact HS1
                iexact HS2
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 1024 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Kernel.Gen

end
-- ==== Proof.FrameTopIdeal.lean ====
/-
  The frame of the program `KernelIdeal`, first part: what each case of the kernel's body leaves in the output's staging buffer and in the three
  scratch buffers it carries, and the recursion over the grid's points that selects the case (`outsAt0`).
  This is the text proofgen prints for this program, split in two, with the case lemmas of `outsAt0` (second part) proved by rewriting with
  the recursion's own equations: as printed, the unifier is left to unfold the recursion and does not finish.
-/
module

public import proofs.«01_k».proof.Proof.Gen.KernelIdeal.Frame.RunF
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).1)

/-- Case A's pieces for scratch `arg12`, which the kernel carries between points, cover it: 3 pieces of `S256x128` tiling it (Lib/Ring.lean `Piece.tiledL`). -/
theorem scover0_A_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1 S256x128.size (by sl_kernel_rfl) y

/-- What case A leaves in scratch `arg12`: its pieces read back over junk. -/
def sout0_A_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1)

/-- Case A's pieces for scratch `arg13`, which the kernel carries between points, cover it: 3 pieces of `S256x128` tiling it (Lib/Ring.lean `Piece.tiledL`). -/
theorem scover0_A_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1 S256x128.size (by sl_kernel_rfl) y

/-- What case A leaves in scratch `arg13`: its pieces read back over junk. -/
def sout0_A_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1)

/-- Case A's pieces for scratch `arg14`, which the kernel carries between points, cover it: 3 pieces of `S256x512` tiling it (Lib/Ring.lean `Piece.tiledL`). -/
theorem scover0_A_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) (y : S256x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1 S256x512.size (by sl_kernel_rfl) y

/-- What case A leaves in scratch `arg14`: its pieces read back over junk. -/
def sout0_A_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) : Vec F S256x512 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).1)

/-- Case B's pieces for scratch `arg12`, which the kernel carries between points, cover it: 2 pieces of `S256x128` tiling it (Lib/Ring.lean `Piece.tiledL`). -/
theorem scover0_B_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1 S256x128.size (by sl_kernel_rfl) y

/-- What case B leaves in scratch `arg12`: its pieces read back over junk. -/
def sout0_B_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.1)

/-- Case B's pieces for scratch `arg13`, which the kernel carries between points, cover it: 2 pieces of `S256x128` tiling it (Lib/Ring.lean `Piece.tiledL`). -/
theorem scover0_B_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1 S256x128.size (by sl_kernel_rfl) y

/-- What case B leaves in scratch `arg13`: its pieces read back over junk. -/
def sout0_B_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.1)

/-- Case B's pieces for scratch `arg14`, which the kernel carries between points, cover it: 2 pieces of `S256x512` tiling it (Lib/Ring.lean `Piece.tiledL`). -/
theorem scover0_B_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) (y : S256x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1 S256x512.size (by sl_kernel_rfl) y

/-- What case B leaves in scratch `arg14`: its pieces read back over junk. -/
def sout0_B_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x512 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1).2.2.2.1)

/-- Case C stores nothing into output 8 (the window is idle at its points and not written back there):
    no pieces — a placeholder (junk read back) that nothing consults, since at these points the window is neither
    written back nor read at the next point (Lib/Pipeline.lean "Idle points"). -/
def out0_C_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1)

/-- Case C's pieces for scratch `arg12`, which the kernel carries between points, cover it: 1 piece of `S256x128` tiling it (Lib/Ring.lean `Piece.tiledL`). -/
theorem scover0_C_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1 S256x128.size (by sl_kernel_rfl) y

/-- What case C leaves in scratch `arg12`: its pieces read back over junk. -/
def sout0_C_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1)

/-- Case C's pieces for scratch `arg13`, which the kernel carries between points, cover it: 1 piece of `S256x128` tiling it (Lib/Ring.lean `Piece.tiledL`). -/
theorem scover0_C_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1 S256x128.size (by sl_kernel_rfl) y

/-- What case C leaves in scratch `arg13`: its pieces read back over junk. -/
def sout0_C_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1)

/-- Case C's pieces for scratch `arg14`, which the kernel carries between points, cover it: 1 piece of `S256x512` tiling it (Lib/Ring.lean `Piece.tiledL`). -/
theorem scover0_C_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1 S256x512.size (by sl_kernel_rfl) y

/-- What case C leaves in scratch `arg14`: its pieces read back over junk. -/
def sout0_C_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x512 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1)

/-- Case D stores nothing into output 8 (the window is idle at its points and not written back there):
    no pieces — a placeholder (junk read back) that nothing consults, since at these points the window is neither
    written back nor read at the next point (Lib/Pipeline.lean "Idle points"). -/
def out0_D_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_D c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1)

/-- Case D stores nothing into scratch `arg12`: it holds what the point before left. -/
def sout0_D_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 := xs0

/-- Case D stores nothing into scratch `arg13`: it holds what the point before left. -/
def sout0_D_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 := xs1

/-- Case D stores nothing into scratch `arg14`: it holds what the point before left. -/
def sout0_D_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x512 .f32 := xs2

/-- Case E's pieces for output 8 tile its block (1 store of `S1x256x512`, checked by the kernel's evaluation: Lib/Ring.lean `Piece.tiledL`, linear in the pieces, through a loop's `@[irreducible]` trip theorem too), so they cover it. -/
theorem cover0_E_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S1x256x512.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1 S1x256x512.size (by sl_kernel_rfl) y

/-- What case E leaves in output 8's staging buffer: its pieces read back over junk. -/
def out0_E_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1)

/-- Case E's pieces for scratch `arg12`, which the kernel carries between points, cover it: 1 piece of `S256x128` tiling it (Lib/Ring.lean `Piece.tiledL`). -/
theorem scover0_E_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1 S256x128.size (by sl_kernel_rfl) y

/-- What case E leaves in scratch `arg12`: its pieces read back over junk. -/
def sout0_E_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_0.read (Elt F) (VS0_0.writes (Elt F) VS0_0.junk (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.1)

/-- Case E's pieces for scratch `arg13`, which the kernel carries between points, cover it: 1 piece of `S256x128` tiling it (Lib/Ring.lean `Piece.tiledL`). -/
theorem scover0_E_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x128.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1 S256x128.size (by sl_kernel_rfl) y

/-- What case E leaves in scratch `arg13`: its pieces read back over junk. -/
def sout0_E_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x128 .f32 :=
  VS0_1.read (Elt F) (VS0_1.writes (Elt F) VS0_1.junk (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.1)

/-- Case E's pieces for scratch `arg14`, which the kernel carries between points, cover it: 1 piece of `S256x512` tiling it (Lib/Ring.lean `Piece.tiledL`). -/
theorem scover0_E_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) (y : S256x512.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1 S256x512.size (by sl_kernel_rfl) y

/-- What case E leaves in scratch `arg14`: its pieces read back over junk. -/
def sout0_E_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) : Vec F S256x512 .f32 :=
  VS0_2.read (Elt F) (VS0_2.writes (Elt F) VS0_2.junk (kernelRun0_E c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).2.2.2.1)

/-- Case F's pieces for output 8 tile its block (1 store of `S1x256x512`, checked by the kernel's evaluation: Lib/Ring.lean `Piece.tiledL`, linear in the pieces, through a loop's `@[irreducible]` trip theorem too), so they cover it. -/
theorem cover0_F_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) (y : S1x256x512.Idx) :
    ∃ pc ∈ (kernelRun0_F c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1, y ∈ pc.1.set :=
  View.cover_of_tiledL (kernelRun0_F c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1 S1x256x512.size (by sl_kernel_rfl) y

/-- What case F leaves in output 8's staging buffer: its pieces read back over junk. -/
def out0_F_8 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S1x256x512 .bf16 :=
  VO0_8.read (Elt F) (VO0_8.writes (Elt F) VO0_8.junk (kernelRun0_F c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1).1)

/-- Case F stores nothing into scratch `arg12`: it holds what the point before left. -/
def sout0_F_0 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 := xs0

/-- Case F stores nothing into scratch `arg13`: it holds what the point before left. -/
def sout0_F_1 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x128 .f32 := xs1

/-- Case F stores nothing into scratch `arg14`: it holds what the point before left. -/
def sout0_F_2 (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i)
    (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) : Vec F S256x512 .f32 := xs2

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x256x512 .bf16 × Vec F S256x128 .f32 × Vec F S256x128 .f32 × Vec F S256x512 .f32
  | 0, hn => if h1 : cond0_1 (grid0.coords ⟨0, hn⟩) (tbM0_0.view.readAt (Elt F) (Rect.unit (s := S8) (k0_off1 (grid0.coords ⟨0, hn⟩)) S1.size (k0_off1_inb (grid0.coords ⟨0, hn⟩))).toLoadRect (tbl m 0) (Shape.Idx.first (numel1_S1.symm ▸ Nat.one_pos))) then
      (out0_A_8 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_A_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1)
    else
      (out0_B_8 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_B_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1, sout0_B_2 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0) h1)
  | n + 1, hn =>
    if h1 : cond0_1 (grid0.coords ⟨n + 1, hn⟩) (tbM0_0.view.readAt (Elt F) (Rect.unit (s := S8) (k0_off1 (grid0.coords ⟨n + 1, hn⟩)) S1.size (k0_off1_inb (grid0.coords ⟨n + 1, hn⟩))).toLoadRect (tbl m 0) (Shape.Idx.first (numel1_S1.symm ▸ Nat.one_pos))) then
      if h0 : (n + 1) % 128 = 0 then
        if h2 : (n + 1) % 128 = 127 then
          False.elim (by have hN : n + 1 < 1024 := lt_of_lt_of_eq hn (show (cfgM m hO).N = 1024 from N_0); omega)
        else
          (out0_A_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_A_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1)
      else
        if h2 : (n + 1) % 128 = 127 then
          (out0_E_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_E_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_E_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_E_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1)
        else
          (out0_C_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_C_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_C_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1)
    else
      if h0 : (n + 1) % 128 = 0 then
        if h2 : (n + 1) % 128 = 127 then
          False.elim (by have hN : n + 1 < 1024 := lt_of_lt_of_eq hn (show (cfgM m hO).N = 1024 from N_0); omega)
        else
          (out0_B_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1, sout0_B_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) h1)
      else
        if h2 : (n + 1) % 128 = 127 then
          (out0_F_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_F_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_F_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_F_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1)
        else
          (out0_D_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_D_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1, sout0_D_2 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) scM0_2 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn)).2.1 (outsAt0 hO c n (Nat.lt_of_succ_lt hn)).2.2.1 (outsAt0 hO c n (Nat.lt_of_succ_lt hn)).2.2.2 h1)

end Cert.KernelIdeal.Gen

end
-- ==== Proof.FrameIdeal.lean ====
/-
  The frame of the program `KernelIdeal`, second part: the case lemmas of the recursion `outsAt0`, the proof data of the pipeline, the body
  obligation, the run and the frame. See the first part's header.
-/
module

public import proofs.«01_k».proof.Proof.FrameTopIdeal

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- `outsAt0` at a point of case A: that case's contents. -/
theorem outsAt0_A (hO : Ok m) (c : Dev nD) (t : Fin (cfgM m hO).N) (h0 : t.val % 128 = 0) (h1 : cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : ¬t.val % 128 = 127) :
    outsAt0 m hO c t.val t.isLt = (out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1) := by
  obtain ⟨n, hn⟩ := t
  cases n with
  | zero => rw [outsAt0.eq_1, dif_pos h1]
  | succ n => rw [outsAt0.eq_2, dif_pos h1, dif_pos h0, dif_neg h2]

/-- `outsAt0` at a point of case B: that case's contents. -/
theorem outsAt0_B (hO : Ok m) (c : Dev nD) (t : Fin (cfgM m hO).N) (h0 : t.val % 128 = 0) (h1 : ¬cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : ¬t.val % 128 = 127) :
    outsAt0 m hO c t.val t.isLt = (out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1) := by
  obtain ⟨n, hn⟩ := t
  cases n with
  | zero => rw [outsAt0.eq_1, dif_neg h1]
  | succ n => rw [outsAt0.eq_2, dif_neg h1, dif_pos h0, dif_neg h2]

set_option maxHeartbeats 1000000 in
/-- `outsAt0` at a point of case C: that case's contents, over what the point before left. -/
theorem outsAt0_C (hO : Ok m) (c : Dev nD) (t : Fin (cfgM m hO).N) (h0 : ¬t.val % 128 = 0) (h1 : cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : ¬t.val % 128 = 127) :
    outsAt0 m hO c t.val t.isLt = (out0_C_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1) := by
  obtain ⟨n, hn⟩ := t
  cases n with
  | zero => exact (by exfalso; (try dsimp only at h0); exact absurd (Nat.zero_mod _) h0)
  | succ n => rw [outsAt0.eq_2, dif_pos h1, dif_neg h0, dif_neg h2]; simp only [Nat.add_one_sub_one]

set_option maxHeartbeats 1000000 in
/-- `outsAt0` at a point of case D: that case's contents, over what the point before left. -/
theorem outsAt0_D (hO : Ok m) (c : Dev nD) (t : Fin (cfgM m hO).N) (h0 : ¬t.val % 128 = 0) (h1 : ¬cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : ¬t.val % 128 = 127) :
    outsAt0 m hO c t.val t.isLt = (out0_D_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_D_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_D_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1) := by
  obtain ⟨n, hn⟩ := t
  cases n with
  | zero => exact (by exfalso; (try dsimp only at h0); exact absurd (Nat.zero_mod _) h0)
  | succ n => rw [outsAt0.eq_2, dif_neg h1, dif_neg h0, dif_neg h2]; simp only [Nat.add_one_sub_one]

set_option maxHeartbeats 1000000 in
/-- `outsAt0` at a point of case E: that case's contents, over what the point before left. -/
theorem outsAt0_E (hO : Ok m) (c : Dev nD) (t : Fin (cfgM m hO).N) (h0 : ¬t.val % 128 = 0) (h1 : cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : t.val % 128 = 127) :
    outsAt0 m hO c t.val t.isLt = (out0_E_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_E_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_E_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1) := by
  obtain ⟨n, hn⟩ := t
  cases n with
  | zero => exact (by exfalso; (try dsimp only at h0); exact absurd (Nat.zero_mod _) h0)
  | succ n => rw [outsAt0.eq_2, dif_pos h1, dif_neg h0, dif_pos h2]; simp only [Nat.add_one_sub_one]

set_option maxHeartbeats 1000000 in
/-- `outsAt0` at a point of case F: that case's contents, over what the point before left. -/
theorem outsAt0_F (hO : Ok m) (c : Dev nD) (t : Fin (cfgM m hO).N) (h0 : ¬t.val % 128 = 0) (h1 : ¬cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))) (h2 : t.val % 128 = 127) :
    outsAt0 m hO c t.val t.isLt = (out0_F_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_F_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1, sout0_F_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2 h1) := by
  obtain ⟨n, hn⟩ := t
  cases n with
  | zero => exact (by exfalso; (try dsimp only at h0); exact absurd (Nat.zero_mod _) h0)
  | succ n => rw [outsAt0.eq_2, dif_neg h1, dif_neg h0, dif_pos h2]; simp only [Nat.add_one_sub_one]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2.1) ∗ owns (c : Thread nD τ) scM0_2 fullShare ((outsAt0 m hO c (n - 1) (by omega)).2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 1024 := lt_of_lt_of_eq t.isLt (show (cfgM m hO).N = 1024 from N_0)
  by_cases h0 : t.val % 128 = 0
  · by_cases h1 : cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))
    · by_cases h2 : t.val % 128 = 127
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_A m hO t ((hcond0_0 t).mpr h0) (fun h => h2 ((hcond0_2 t).mp h))) (noFlush0_8_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0 sout0_A_1 sout0_A_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HS1]; · iexact HS1
          isplitl [HS2]; · iexact HS2
          isplitl [HT0]; · iexact HT0
          iintro ⟨H0, H1, H2, H3, H4, H5, H6, H7, H8, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
        · rw [PhiS_castSucc m hO c t, PhiS_pos m hO c _ _ hz, PhiT0_eq]
          rw [outsAt0_A m hO c t h0 h1 h2]
          unfold sout0_A_0 sout0_A_1 sout0_A_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexists _; iexact HS0
          isplitl [HS1]; · iexists _; iexact HS1
          isplitl [HS2]; · iexists _; iexact HS2
          isplitl [HT0]; · iexact HT0
          iintro ⟨H0, H1, H2, H3, H4, H5, H6, H7, H8, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
    · by_cases h2 : t.val % 128 = 127
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_B m hO t ((hcond0_0 t).mpr h0) (fun h => h2 ((hcond0_2 t).mp h))) (noFlush0_8_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0 sout0_B_1 sout0_B_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HS1]; · iexact HS1
          isplitl [HS2]; · iexact HS2
          isplitl [HT0]; · iexact HT0
          iintro ⟨H0, H1, H2, H3, H4, H5, H6, H7, H8, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
        · rw [PhiS_castSucc m hO c t, PhiS_pos m hO c _ _ hz, PhiT0_eq]
          rw [outsAt0_B m hO c t h0 h1 h2]
          unfold sout0_B_0 sout0_B_1 sout0_B_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexists _; iexact HS0
          isplitl [HS1]; · iexists _; iexact HS1
          isplitl [HS2]; · iexists _; iexact HS2
          isplitl [HT0]; · iexact HT0
          iintro ⟨H0, H1, H2, H3, H4, H5, H6, H7, H8, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
  · by_cases h1 : cond0_1 (grid0.coords t) (tbM0_0.view.readAt (Elt F) (Rect.unit (s := S8) (k0_off1 (grid0.coords t)) S1.size (k0_off1_inb (grid0.coords t))).toLoadRect (tbl m 0) (Shape.Idx.first (numel1_S1.symm ▸ Nat.one_pos)))
    · by_cases h2 : t.val % 128 = 127
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8_E m hO t (fun h => h0 ((hcond0_0 t).mp h)) ((hcond0_2 t).mpr h2)]; try rfl, after0_8]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_E m hO c t h0 h1 h2]
          unfold out0_E_8 sout0_E_0 sout0_E_1 sout0_E_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_E c (grid0.coords t) _ _ _ _ _ _ _ _ _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          isplitl [HS1]; · iexact HS1
          isplitl [HS2]; · iexact HS2
          isplitl [HT0]; · iexact HT0
          iintro ⟨H0, H1, H2, H3, H4, H5, H6, H7, ⟨%e8, H8⟩, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_E_0 c _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_E_1 c _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_E_2 c _ _ _ _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _; isplitr
          swap; · iexact H8
          ipureintro; exact View.read_writes_of_cover _ _ _ _ _ (cover0_E_8 c _ _ _ _ _ _ _ _ _ _ _ _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_C m hO t (fun h => h0 ((hcond0_0 t).mp h)) (fun h => h2 ((hcond0_2 t).mp h))) (noFlush0_8_C m hO t (fun h => h0 ((hcond0_0 t).mp h)) (fun h => h2 ((hcond0_2 t).mp h)))]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_C m hO c t h0 h1 h2]
          unfold sout0_C_0 sout0_C_1 sout0_C_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_C c (grid0.coords t) _ _ _ _ _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HS1]; · iexact HS1
          isplitl [HS2]; · iexact HS2
          isplitl [HT0]; · iexact HT0
          iintro ⟨H0, H1, H2, H3, H4, H5, H6, H7, H8, ⟨%es0, HS0⟩, ⟨%es1, HS1⟩, ⟨%es2, HS2⟩, HT0⟩
          isplitl [HS0 HS1 HS2 Hg HT0]
          · isplitl [HS0 HS1 HS2 Hg]
            · isplitl [HS0 HS1 HS2]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
    · by_cases h2 : t.val % 128 = 127
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [show (dats m hO 0 c).leavesExact 8 t = owns (c : Thread nD τ) (ms0_8 m hO t) fullShare ((dats m hO 0 c).after 8 t) from by
      unfold Dat.leavesExact; rw [liveAt0_8_F m hO t (fun h => h0 ((hcond0_0 t).mp h)) ((hcond0_2 t).mpr h2)]; try rfl, after0_8]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_F m hO c t h0 h1 h2]
          unfold out0_F_8 sout0_F_0 sout0_F_1 sout0_F_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_F c (grid0.coords t) _ _ _ _ _ _ _ _ _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          isplitl [HS1]; · iexact HS1
          isplitl [HS2]; · iexact HS2
          isplitl [HT0]; · iexact HT0
          iintro ⟨H0, H1, H2, H3, H4, H5, H6, H7, ⟨%e8, H8⟩, HS0, HS1, HS2, HT0⟩
          isplitl [HS0 HS1 HS2 Hg HT0]
          · isplitl [HS0 HS1 HS2 Hg]
            · isplitl [HS0 HS1 HS2]
              · isplitl [HS0]
                · iexact HS0
                isplitl [HS1]
                · iexact HS1
                iexact HS2
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _; isplitr
          swap; · iexact H8
          ipureintro; exact View.read_writes_of_cover _ _ _ _ _ (cover0_F_8 c _ _ _ _ _ _ _ _ _ _ _ _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6 m hO t]; try rfl, after0_6]
        rw [show (dats m hO 0 c).leavesExact 7 t = owns (c : Thread nD τ) (ms0_7 m hO t) fullShare ((dats m hO 0 c).after 7 t) from by
      unfold Dat.leavesExact; rw [liveAt0_7 m hO t]; try rfl, after0_7]
        rw [Dat.leavesExact_idle (dats m hO 0 c) 8 t (idleAt0_8_D m hO t (fun h => h0 ((hcond0_0 t).mp h)) (fun h => h2 ((hcond0_2 t).mp h))) (noFlush0_8_D m hO t (fun h => h0 ((hcond0_0 t).mp h)) (fun h => h2 ((hcond0_2 t).mp h)))]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_D m hO c t h0 h1 h2]
          unfold sout0_D_0 sout0_D_1 sout0_D_2; (try dsimp only)
          iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_D c (grid0.coords t) _ _ _ _ _ _ _ _ _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (iblk m hO c 6 t) (iblk m hO c 7 t) (tbl m 0) _ _ _ h1).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          isplitl [HS1]; · iexact HS1
          isplitl [HS2]; · iexact HS2
          isplitl [HT0]; · iexact HT0
          iintro ⟨H0, H1, H2, H3, H4, H5, H6, H7, H8, HS0, HS1, HS2, HT0⟩
          isplitl [HS0 HS1 HS2 Hg HT0]
          · isplitl [HS0 HS1 HS2 Hg]
            · isplitl [HS0 HS1 HS2]
              · isplitl [HS0]
                · iexact HS0
                isplitl [HS1]
                · iexact HS1
                iexact HS2
              iexact Hg
            iexact HT0
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 1024 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.KernelIdeal.Gen

end
-- ==== Proof.Words.lean ====
/- The index words of the kernel: which block of the cache a grid point reads, when a block of the cache
   has to be read at all, and which of its keys are inside the request's length. -/
module

public import Idealize.ShloMosaic.Lib.StableHlo
public import Idealize.ShloMosaic.PureOps

@[expose] public section

namespace Cert.Words

open Idealize.ShloMosaic

/-- The number of cache blocks of 1024 keys that a request of length `v` takes, as the kernel computes it. -/
def blocks (v : BitVec 32) : BitVec 32 := Scalar.divsi (Scalar.addi v 1023#32) 1024#32

/-- The block that grid step `a` reads: the step's own, held at the last block in use. -/
def clamp (a v : BitVec 32) : BitVec 32 := Scalar.minsi a (Scalar.maxsi (Scalar.subi (blocks v) 1#32) 0#32)

theorem toInt_small {k n : Nat} (hn : n ≤ 2147483648) (h : k < n) : (BitVec.ofNat 32 k).toInt = k := by
  rw [BitVec.toInt_eq_toNat_of_lt] <;> simp [BitVec.toNat_ofNat] <;> omega

theorem toNat_small {k : Nat} (h : k < 128) : (BitVec.ofNat 32 k).toNat = k := by
  rw [BitVec.toNat_ofNat, Nat.mod_eq_of_lt]; omega

/-- A signed maximum with zero, as a number. -/
theorem toNat_max (x : BitVec 32) : ((Scalar.maxsi x 0#32).toNat : Int) = max x.toInt 0 ∧ (Scalar.maxsi x 0#32).toInt = max x.toInt 0 := by
  have h0 : (0#32 : BitVec 32).toInt = 0 := by decide
  unfold Scalar.maxsi IntOp.maxsi
  by_cases h : (0#32 : BitVec 32).slt x
  · rw [if_pos h]
    rw [BitVec.slt_iff_toInt_lt, h0] at h
    have := BitVec.toInt_eq_toNat_cond x
    have hx := x.isLt
    split at this <;> omega
  · rw [if_neg h]
    rw [BitVec.slt_iff_toInt_lt, h0] at h
    rw [h0, BitVec.toNat_zero]
    omega

/-- The block read, as a number. -/
theorem toNat_clamp {k : Nat} (hk : k < 128) (v : BitVec 32) :
    ((clamp (BitVec.ofNat 32 k) v).toNat : Int) = min (k : Int) (max (Scalar.subi (blocks v) 1#32).toInt 0) := by
  unfold clamp
  generalize Scalar.subi (blocks v) 1#32 = x
  obtain ⟨e1, e2⟩ := toNat_max x
  generalize Scalar.maxsi x 0#32 = y at e1 e2 ⊢
  have hkz : (BitVec.ofNat 32 k).toInt = k := toInt_small (n := 128) (by decide) hk
  have hkn := toNat_small hk
  unfold Scalar.minsi IntOp.minsi
  by_cases h : (BitVec.ofNat 32 k).slt y
  · rw [if_pos h, hkn]
    rw [BitVec.slt_iff_toInt_lt, hkz] at h
    omega
  · rw [if_neg h]
    rw [BitVec.slt_iff_toInt_lt, hkz] at h
    omega

/-- Whatever the length, the block read is no later than the step's own. -/
theorem clamp_le {k : Nat} (hk : k < 128) (v : BitVec 32) : (clamp (BitVec.ofNat 32 k) v).toNat ≤ k := by
  have := toNat_clamp hk v
  omega

theorem toInt_blocks (v : BitVec 32) : (blocks v).toInt = (v + 1023#32).toInt.tdiv 1024 := by
  have h : ¬ IntOp.SDivCorner (v + 1023#32) 1024#32 := by
    unfold IntOp.SDivCorner; simp
  unfold blocks Scalar.divsi IntOp.divsi Scalar.addi IntOp.addi
  rw [if_neg h, BitVec.toInt_sdiv]
  have h1 : (1024#32 : BitVec 32).toInt = 1024 := by decide
  rw [h1]
  have h2 := BitVec.toInt_lt (x := v + 1023#32)
  have h3 := BitVec.le_toInt (x := v + 1023#32)
  generalize (v + 1023#32).toInt = z at h2 h3 ⊢
  rw [Int.bmod_eq_of_le]
  · have := Int.tdiv_le_tdiv (a := -2147483648) (b := z) (c := 1024) (by decide) (by simpa using h3)
    have h4 : (-2147483648 : Int).tdiv 1024 = -2097152 := by decide
    omega
  · have := Int.tdiv_le_tdiv (a := z) (b := 2147483647) (c := 1024) (by decide) (by simp at h2; omega)
    have h4 : (2147483647 : Int).tdiv 1024 = 2097151 := by decide
    omega

/-- The word the kernel branches on: whether step `a` is before the last block in use. -/
def live (a v : BitVec 32) : Prop :=
  Scalar.cmpi .ne (Scalar.extui (Scalar.cmpi .slt a (blocks v)) : BitVec 32) 0#32 = 1#1

theorem live_iff_slt (a v : BitVec 32) : live a v ↔ a.toInt < (blocks v).toInt := by
  unfold live Scalar.cmpi IntOp.cmpi Scalar.extui
  rw [← BitVec.slt_iff_toInt_lt]
  cases h : a.slt (blocks v) <;> simp

/-- Where the length does not overflow when rounded up, a step is live exactly when its first key is inside the length. -/
theorem live_iff {k : Nat} (hk : k < 128) {v : BitVec 32} (hv : v.toInt ≤ 2147482624) :
    live (BitVec.ofNat 32 k) v ↔ (k : Int) * 1024 < v.toInt := by
  rw [live_iff_slt, toInt_blocks, toInt_small (n := 128) (by decide) hk]
  have h3 := BitVec.le_toInt (x := v)
  have e : (v + 1023#32).toInt = v.toInt + 1023 := by
    rw [BitVec.toInt_add]
    have : (1023#32 : BitVec 32).toInt = 1023 := by decide
    rw [this, Int.bmod_eq_of_le] <;> omega
  rw [e]
  rcases Int.lt_or_le (v.toInt + 1023) 0 with h | h
  · have := Int.tdiv_le_tdiv (a := v.toInt + 1023) (b := 0) (c := 1024) (by decide) (by omega)
    have h4 : (0 : Int).tdiv 1024 = 0 := by decide
    constructor <;> intro <;> omega
  · rw [Int.tdiv_eq_ediv_of_nonneg h]
    constructor <;> intro <;> omega

/-- A live step reads its own block. -/
theorem clamp_live {k : Nat} (hk : k < 128) {v : BitVec 32} (h : live (BitVec.ofNat 32 k) v) :
    (clamp (BitVec.ofNat 32 k) v).toNat = k := by
  rw [live_iff_slt, toInt_small (n := 128) (by decide) hk] at h
  have hc := toNat_clamp hk v
  have e : (Scalar.subi (blocks v) 1#32).toInt = (blocks v).toInt - 1 := by
    unfold Scalar.subi IntOp.subi
    rw [BitVec.toInt_sub]
    have h2 := BitVec.toInt_lt (x := blocks v)
    have : (1#32 : BitVec 32).toInt = 1 := by decide
    generalize (blocks v).toInt = z at h h2 ⊢
    rw [this, Int.bmod_eq_of_le] <;> omega
  rw [e] at hc
  generalize (blocks v).toInt = z at h hc
  omega

end Cert.Words
-- ==== Proof.TableKernel.lean ====
/- The lengths that the index maps read put no block outside its array, whatever they are: the block index is held
   between zero and the grid step. -/
module

public import proofs.«01_k».proof.Proof.FrameTopKernel
public import proofs.«01_k».proof.Proof.Words

@[expose] public section

namespace Cert.Kernel.Table

open Idealize.ShloMosaic Idealize.SL.Sem Cert.Kernel Cert.Kernel.Gen Cert.Words

variable {F : FTy → Type} [FloatOps F]

/-- The request's length at a grid point, as the index maps read it. -/
abbrev len (pf : pre0.Contents (Elt F)) (i : grid0.Coords) : BitVec 32 :=
  pf.at 0 (Rect.unit (s := S8) (k0_off1 i) S1.size (k0_off1_inb i)) numel1_S1

theorem transform_2 (pf : pre0.Contents (Elt F)) (i : grid0.Coords) :
    cc0_transform_2 k0_off1_inb numel1_S1 pf i
      = ![(BitVec.ofNat 32 (i 0).val).toNat, (clamp (BitVec.ofNat 32 (i 1).val) (len pf i)).toNat, 0] := rfl

theorem transform_3 (pf : pre0.Contents (Elt F)) (i : grid0.Coords) :
    cc0_transform_3 k0_off1_inb numel1_S1 pf i
      = ![0, (clamp (BitVec.ofNat 32 (i 1).val) (len pf i)).toNat] := rfl

theorem transform_4 (pf : pre0.Contents (Elt F)) (i : grid0.Coords) :
    cc0_transform_4 k0_off1_inb numel1_S1 pf i
      = ![(BitVec.ofNat 32 (i 0).val).toNat, (clamp (BitVec.ofNat 32 (i 1).val) (len pf i)).toNat, 0] := rfl

theorem i0_toNat (i : grid0.Coords) : (BitVec.ofNat 32 (i 0).val).toNat < 8 := by
  have h : (i 0).val < 8 := (i 0).isLt
  simp [BitVec.toNat_ofNat]; omega

theorem clamp_lt (i : grid0.Coords) (v : BitVec 32) : (clamp (BitVec.ofNat 32 (i 1).val) v).toNat < 128 := by
  have h : (i 1).val < 128 := (i 1).isLt
  have := clamp_le h v
  omega

/-- The side condition of the tables' contents holds of all contents. -/
theorem ok (pf : pre0.Contents (Elt F)) : ok0 pf := by
  refine ⟨fun i => ?_, fun i => ?_, fun i => ?_⟩
  · have h0 := i0_toNat i
    have h1 := clamp_lt i (len pf i)
    refine ⟨?_, .inr (Affine.block_words_dvd (of_decide_eq_true rfl) (by decide))⟩
    rw [transform_2]
    intro a
    fin_cases a
    · show ((BitVec.ofNat 32 (i 0).val).toNat + 1) * 1 ≤ 8; omega
    · show ((clamp (BitVec.ofNat 32 (i 1).val) (len pf i)).toNat + 1) * 1024 ≤ 131072; omega
    · show (0 + 1) * 512 ≤ 512; omega
  · have h1 := clamp_lt i (len pf i)
    refine ⟨?_, .inl rfl⟩
    rw [transform_3]
    intro a
    fin_cases a
    · show (0 + 1) * 8 ≤ 8; omega
    · show ((clamp (BitVec.ofNat 32 (i 1).val) (len pf i)).toNat + 1) * 1024 ≤ 131072; omega
  · have h0 := i0_toNat i
    have h1 := clamp_lt i (len pf i)
    refine ⟨?_, .inr (Affine.block_words_dvd (of_decide_eq_true rfl) (by decide))⟩
    rw [transform_4]
    intro a
    fin_cases a
    · show ((BitVec.ofNat 32 (i 0).val).toNat + 1) * 1 ≤ 8; omega
    · show ((clamp (BitVec.ofNat 32 (i 1).val) (len pf i)).toNat + 1) * 1024 ≤ 131072; omega
    · show (0 + 1) * 64 ≤ 64; omega

/-- So the frame's side condition holds at every memory. -/
theorem okAt (m : (ℓ : Loc nD τ sig) → Buf (Elt F) ℓ) : Ok m := ok (tbl m)

end Cert.Kernel.Table
-- ==== Proof.TableIdeal.lean ====
/- The lengths that the index maps read put no block outside its array, whatever they are: the block index is held
   between zero and the grid step. -/
module

public import proofs.«01_k».proof.Proof.FrameTopIdeal
public import Idealize.ShloMosaic.PureOps.Ideal
public import proofs.«01_k».proof.Proof.Words

@[expose] public section

namespace Cert.KernelIdeal.Table

open Idealize.ShloMosaic Idealize.SL.Sem Cert.KernelIdeal Cert.KernelIdeal.Gen Cert.Words

variable {F : FTy → Type} [FloatOps F] [Named F]

/-- The request's length at a grid point, as the index maps read it. -/
abbrev len (pf : pre0.Contents (Elt F)) (i : grid0.Coords) : BitVec 32 :=
  pf.at 0 (Rect.unit (s := S8) (k0_off1 i) S1.size (k0_off1_inb i)) numel1_S1

theorem transform_2 (pf : pre0.Contents (Elt F)) (i : grid0.Coords) :
    cc0_transform_2 k0_off1_inb numel1_S1 pf i
      = ![(BitVec.ofNat 32 (i 0).val).toNat, (clamp (BitVec.ofNat 32 (i 1).val) (len pf i)).toNat, 0] := rfl

theorem transform_3 (pf : pre0.Contents (Elt F)) (i : grid0.Coords) :
    cc0_transform_3 k0_off1_inb numel1_S1 pf i
      = ![0, (clamp (BitVec.ofNat 32 (i 1).val) (len pf i)).toNat] := rfl

theorem transform_4 (pf : pre0.Contents (Elt F)) (i : grid0.Coords) :
    cc0_transform_4 k0_off1_inb numel1_S1 pf i
      = ![(BitVec.ofNat 32 (i 0).val).toNat, (clamp (BitVec.ofNat 32 (i 1).val) (len pf i)).toNat, 0] := rfl

theorem i0_toNat (i : grid0.Coords) : (BitVec.ofNat 32 (i 0).val).toNat < 8 := by
  have h : (i 0).val < 8 := (i 0).isLt
  simp [BitVec.toNat_ofNat]; omega

theorem clamp_lt (i : grid0.Coords) (v : BitVec 32) : (clamp (BitVec.ofNat 32 (i 1).val) v).toNat < 128 := by
  have h : (i 1).val < 128 := (i 1).isLt
  have := clamp_le h v
  omega

/-- The side condition of the tables' contents holds of all contents. -/
theorem ok (pf : pre0.Contents (Elt F)) : ok0 pf := by
  refine ⟨fun i => ?_, fun i => ?_, fun i => ?_⟩
  · have h0 := i0_toNat i
    have h1 := clamp_lt i (len pf i)
    refine ⟨?_, .inr (Affine.block_words_dvd (of_decide_eq_true rfl) (by decide))⟩
    rw [transform_2]
    intro a
    fin_cases a
    · show ((BitVec.ofNat 32 (i 0).val).toNat + 1) * 1 ≤ 8; omega
    · show ((clamp (BitVec.ofNat 32 (i 1).val) (len pf i)).toNat + 1) * 1024 ≤ 131072; omega
    · show (0 + 1) * 512 ≤ 512; omega
  · have h1 := clamp_lt i (len pf i)
    refine ⟨?_, .inl rfl⟩
    rw [transform_3]
    intro a
    fin_cases a
    · show (0 + 1) * 8 ≤ 8; omega
    · show ((clamp (BitVec.ofNat 32 (i 1).val) (len pf i)).toNat + 1) * 1024 ≤ 131072; omega
  · have h0 := i0_toNat i
    have h1 := clamp_lt i (len pf i)
    refine ⟨?_, .inr (Affine.block_words_dvd (of_decide_eq_true rfl) (by decide))⟩
    rw [transform_4]
    intro a
    fin_cases a
    · show ((BitVec.ofNat 32 (i 0).val).toNat + 1) * 1 ≤ 8; omega
    · show ((clamp (BitVec.ofNat 32 (i 1).val) (len pf i)).toNat + 1) * 1024 ≤ 131072; omega
    · show (0 + 1) * 64 ≤ 64; omega

/-- So the frame's side condition holds at every memory. -/
theorem okAt (m : (ℓ : Loc nD τ sig) → Buf (Elt F) ℓ) : Ok m := ok (tbl m)

end Cert.KernelIdeal.Table
-- ==== Proof.Online.lean ====
/-
  The mathematics of a running softmax, away from any program: scores are extended reals below ⊤ (⊥ for a masked key), weights and values are reals.
  The kernel keeps a running maximum `top`, a running denominator `den` and a running numerator `num`, rescaled at each block of keys.
-/
module

public import Idealize.ShloMosaic.PureOps.Ideal
public import Mathlib.Analysis.SpecialFunctions.Pow.Real

@[expose] public section

noncomputable section
namespace Cert.Online

open Idealize.ShloMosaic Finset

/-- The softmax scale `1/√192`. -/
def sig : ℝ := (Real.sqrt 192)⁻¹

/-- The softmax scale in base 2: `1/(√192 · log 2)`, the value of the kernel's named constant. -/
def kap : ℝ := (Real.sqrt 192 * Real.log 2)⁻¹

theorem sig_pos : 0 < sig := inv_pos.mpr (Real.sqrt_pos.mpr (by norm_num))

theorem kap_pos : 0 < kap :=
  inv_pos.mpr (mul_pos (Real.sqrt_pos.mpr (by norm_num)) (Real.log_pos (by norm_num)))

theorem log_mul_kap (x : ℝ) : Real.log 2 * (x * kap) = x * sig := by
  have : Real.log 2 ≠ 0 := (Real.log_pos (by norm_num)).ne'
  unfold kap sig
  rw [mul_inv]
  field_simp

/-- The weight of a score `t` against a maximum `M`: `0` for a masked key. -/
def e (M : ℝ) (t : EReal) : ℝ := if t = ⊥ then 0 else Real.exp ((t.toReal - M) * sig)

theorem e_bot (M : ℝ) : e M ⊥ = 0 := if_pos rfl

theorem e_coe (M t : ℝ) : e M (t : EReal) = Real.exp ((t - M) * sig) := by
  unfold e; rw [if_neg (EReal.coe_ne_bot t), EReal.toReal_coe]

theorem e_nonneg (M : ℝ) (t : EReal) : 0 ≤ e M t := by
  unfold e; split
  · exact le_refl _
  · exact (Real.exp_pos _).le

theorem e_self (M : ℝ) : e M (M : EReal) = 1 := by rw [e_coe]; simp

/-- Rescaling a weight from one maximum to another. -/
theorem e_mul (M M' : ℝ) (t : EReal) : e M' (M : EReal) * e M t = e M' t := by
  by_cases h : t = ⊥
  · subst h; rw [e_bot, e_bot, mul_zero]
  · rw [e_coe]; unfold e; rw [if_neg h, if_neg h, ← Real.exp_add]; congr 1; ring

/-- The kernel's weight, a power of two. -/
theorem exp2_eq (M : ℝ) (t : EReal) (ht : t ≠ ⊤) : Ideal.exp2 ((t - (M : EReal)) * (kap : EReal)) = (e M t : EReal) := by
  induction t using EReal.rec with
  | bot => rw [EReal.bot_sub, EReal.bot_mul_coe_of_pos kap_pos, e_bot]; rfl
  | top => exact absurd rfl ht
  | coe t =>
    rw [e_coe, ← EReal.coe_sub, ← EReal.coe_mul]
    change ((Real.rpow 2 ((t - M) * kap) : ℝ) : EReal) = _
    congr 1
    change (2 : ℝ) ^ ((t - M) * kap) = _
    rw [Real.rpow_def_of_pos (by norm_num), log_mul_kap]

/-- The reference's weight: an exponential of scaled scores. -/
theorem exp_eq (M : ℝ) (t : EReal) (ht : t ≠ ⊤) :
    Ideal.exp (t * (sig : EReal) - (M : EReal) * (sig : EReal)) = (e M t : EReal) := by
  induction t using EReal.rec with
  | bot => rw [EReal.bot_mul_coe_of_pos sig_pos, EReal.bot_sub, e_bot]; rfl
  | top => exact absurd rfl ht
  | coe t =>
    rw [e_coe, ← EReal.coe_mul, ← EReal.coe_mul, ← EReal.coe_sub, sub_mul]
    rfl

/-- A sum of reals, coerced. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

section run

variable (N : Fin 128 → EReal) (f : ℕ → EReal)

/-- The maximum after the new tokens and `n` blocks of 1024 keys. -/
def top : ℕ → EReal
  | 0 => univ.sup N
  | n + 1 => max (top n) (univ.sup fun k : Fin 1024 => f (n * 1024 + k.val))

/-- The weighted sum over the new tokens and the keys of `n` blocks, at the maximum `M`. -/
def tot (M : ℝ) (gN : Fin 128 → ℝ) (g : ℕ → ℝ) (n : ℕ) : ℝ :=
  (∑ t, e M (N t) * gN t) + ∑ p ∈ range (n * 1024), e M (f p) * g p

/-- The weighted sum at the running maximum. -/
def acc (gN : Fin 128 → ℝ) (g : ℕ → ℝ) (n : ℕ) : ℝ := tot N f (top N f n).toReal gN g n

theorem top_eq (n : ℕ) : top N f n = max (univ.sup N) ((range (n * 1024)).sup f) := by
  induction n with
  | zero => simp [top]
  | succ n ih =>
    rw [top, ih, max_assoc]
    congr 1
    apply le_antisymm
    · apply max_le
      · exact Finset.sup_mono (Finset.range_mono (by omega))
      · refine Finset.sup_le fun k _ => ?_
        exact Finset.le_sup (f := f) (Finset.mem_range.mpr (by have := k.isLt; omega))
    · refine Finset.sup_le fun p hp => ?_
      rw [Finset.mem_range] at hp
      by_cases h : p < n * 1024
      · exact le_max_of_le_left (Finset.le_sup (f := f) (Finset.mem_range.mpr h))
      · refine le_max_of_le_right ?_
        have := Finset.le_sup (f := fun k : Fin 1024 => f (n * 1024 + k.val)) (Finset.mem_univ ⟨p - n * 1024, by omega⟩)
        rw [show f p = f (n * 1024 + (p - n * 1024)) by congr 1; omega]
        exact this

theorem sup_ne_top {ι : Type*} (s : Finset ι) (g : ι → EReal) (h : ∀ x, g x ≠ ⊤) : s.sup g ≠ ⊤ := by
  classical
  induction s using Finset.induction_on with
  | empty => simp
  | insert a s ha ih =>
    rw [Finset.sup_insert]
    rcases max_choice (g a) (s.sup g) with h' | h'
    · change max _ _ ≠ _; rw [h']; exact h a
    · change max _ _ ≠ _; rw [h']; exact ih

variable {N f} (hN : ∀ t, N t ≠ ⊤) (hN0 : N 0 ≠ ⊥) (hf : ∀ p, f p ≠ ⊤)
include hN hN0 hf

/-- The running maximum is a real: the first new token is never masked. -/
theorem coe_top (n : ℕ) : ((top N f n).toReal : EReal) = top N f n := by
  refine EReal.coe_toReal ?_ ?_
  · rw [top_eq]
    rcases max_choice (univ.sup N) ((range (n * 1024)).sup f) with h' | h' <;> rw [h']
    · exact sup_ne_top _ _ hN
    · exact sup_ne_top _ _ hf
  · rw [top_eq]
    have h1 : N 0 ≤ univ.sup N := Finset.le_sup (Finset.mem_univ _)
    have h2 := le_max_of_le_left (c := (range (n * 1024)).sup f) h1
    intro h
    rw [h, le_bot_iff] at h2
    exact hN0 h2

/-- A new token's weight in the kernel. -/
theorem wt_new (n : ℕ) (t : Fin 128) : Ideal.exp2 ((N t - top N f n) * (kap : EReal)) = (e (top N f n).toReal (N t) : EReal) := by
  rw [← exp2_eq _ _ (hN t), coe_top hN hN0 hf]

/-- A key's weight in the kernel. -/
theorem wt_key (n p : ℕ) : Ideal.exp2 ((f p - top N f n) * (kap : EReal)) = (e (top N f n).toReal (f p) : EReal) := by
  rw [← exp2_eq _ _ (hf p), coe_top hN hN0 hf]

/-- The kernel's rescaling factor. -/
theorem wt_top (n n' : ℕ) : Ideal.exp2 ((top N f n - top N f n') * (kap : EReal))
    = (e (top N f n').toReal (top N f n) : EReal) := by
  rw [← exp2_eq, coe_top hN hN0 hf]
  rw [← coe_top hN hN0 hf]; exact EReal.coe_ne_top _

/-- One block, in reals. -/
theorem acc_succ (gN : Fin 128 → ℝ) (g : ℕ → ℝ) (n : ℕ) :
    e (top N f (n + 1)).toReal (top N f n) * acc N f gN g n
        + ∑ k : Fin 1024, e (top N f (n + 1)).toReal (f (n * 1024 + k.val)) * g (n * 1024 + k.val)
      = acc N f gN g (n + 1) := by
  unfold acc tot
  rw [← coe_top hN hN0 hf n]
  generalize (top N f (n + 1)).toReal = M'
  generalize (top N f n).toReal = M
  rw [EReal.toReal_coe, show (n + 1) * 1024 = n * 1024 + 1024 by ring, Finset.sum_range_add, ← add_assoc, mul_add, Finset.mul_sum,
    Finset.mul_sum, ← Finset.sum_range (fun k => e M' (f (n * 1024 + k)) * g (n * 1024 + k))]
  simp only [← mul_assoc, e_mul]

omit hf in
/-- The denominator is positive: the weights are not all zero. -/
theorem den_pos (n : ℕ) : 0 < acc N f (fun _ => 1) (fun _ => 1) n := by
  unfold acc tot
  have h0 : 0 < e (top N f n).toReal (N 0) := by
    unfold e; rw [if_neg hN0]; exact Real.exp_pos _
  have h1 : 0 < ∑ t, e (top N f n).toReal (N t) * 1 :=
    Finset.sum_pos' (fun t _ => by rw [mul_one]; exact e_nonneg _ _) ⟨0, Finset.mem_univ _, by rw [mul_one]; exact h0⟩
  have h2 : 0 ≤ ∑ p ∈ range (n * 1024), e (top N f n).toReal (f p) * 1 :=
    Finset.sum_nonneg fun p _ => by rw [mul_one]; exact e_nonneg _ _
  linarith

/-- The kernel's denominator after a block. -/
theorem den_step (n : ℕ) :
    Ideal.exp2 ((top N f n - top N f (n + 1)) * (kap : EReal)) * (acc N f (fun _ => 1) (fun _ => 1) n : EReal)
        + ∑ k : Fin 1024, Ideal.exp2 ((f (n * 1024 + k.val) - top N f (n + 1)) * (kap : EReal))
      = (acc N f (fun _ => 1) (fun _ => 1) (n + 1) : EReal) := by
  rw [wt_top hN hN0 hf, ← acc_succ hN hN0 hf]
  simp only [wt_key hN hN0 hf, EReal.coe_add, EReal.coe_mul, coe_sum, EReal.coe_one, mul_one]

/-- The kernel's numerator after a block. -/
theorem num_step (gN : Fin 128 → ℝ) (w v : ℕ → ℝ) (n : ℕ) :
    (acc N f gN (fun p => w p * v p) n : EReal) * Ideal.exp2 ((top N f n - top N f (n + 1)) * (kap : EReal))
        + ∑ k : Fin 1024, Ideal.exp2 ((f (n * 1024 + k.val) - top N f (n + 1)) * (kap : EReal)) * (w (n * 1024 + k.val) : EReal)
            * (v (n * 1024 + k.val) : EReal)
      = (acc N f gN (fun p => w p * v p) (n + 1) : EReal) := by
  rw [wt_top hN hN0 hf, ← acc_succ hN hN0 hf, mul_comm]
  simp only [wt_key hN hN0 hf, EReal.coe_add, EReal.coe_mul, coe_sum, mul_assoc]

/-- The kernel's denominator after the new tokens. -/
theorem den_zero :
    Ideal.exp2 ((⊥ - top N f 0) * (kap : EReal)) * 0 + ∑ t, Ideal.exp2 ((N t - top N f 0) * (kap : EReal))
      = (acc N f (fun _ => 1) (fun _ => 1) 0 : EReal) := by
  rw [mul_zero, zero_add]
  unfold acc tot
  simp only [wt_new hN hN0 hf, EReal.coe_add, EReal.coe_mul, coe_sum, EReal.coe_one, mul_one, Nat.zero_mul, Finset.range_zero,
    Finset.sum_empty, EReal.coe_zero, add_zero]

/-- The kernel's numerator after the new tokens. -/
theorem num_zero (w v : Fin 128 → ℝ) (g : ℕ → ℝ) :
    0 * Ideal.exp2 ((⊥ - top N f 0) * (kap : EReal))
        + ∑ t, Ideal.exp2 ((N t - top N f 0) * (kap : EReal)) * (w t : EReal) * (v t : EReal)
      = (acc N f (fun t => w t * v t) g 0 : EReal) := by
  rw [zero_mul, zero_add]
  unfold acc tot
  simp only [wt_new hN hN0 hf, EReal.coe_add, EReal.coe_mul, coe_sum, mul_assoc, Nat.zero_mul, Finset.range_zero,
    Finset.sum_empty, EReal.coe_zero, add_zero]

omit hN hN0 hf in
/-- A block all masked leaves the maximum. -/
theorem top_dead (n : ℕ) (h : ∀ k : Fin 1024, f (n * 1024 + k.val) = ⊥) : top N f (n + 1) = top N f n := by
  rw [top]
  simp only [h, Finset.sup_const Finset.univ_nonempty]
  exact max_eq_left bot_le

/-- A block all masked leaves the sums. -/
theorem acc_dead (gN : Fin 128 → ℝ) (g : ℕ → ℝ) (n : ℕ) (h : ∀ k : Fin 1024, f (n * 1024 + k.val) = ⊥) :
    acc N f gN g (n + 1) = acc N f gN g n := by
  rw [← acc_succ hN hN0 hf, top_dead n h]
  simp only [h, e_bot, zero_mul, Finset.sum_const_zero, add_zero]
  conv_lhs => rw [← coe_top hN hN0 hf n]
  rw [EReal.toReal_coe, e_self, one_mul]

end run

end Cert.Online
end
-- ==== Proof.Spec.lean ====
/- The attention of one row over its keys, written on the arguments' contents, away from both programs: the scores, the weights, and the
   quotient that both programs compute. -/
module

public import proofs.«01_k».proof.Proof.Online
public import Idealize.ShloMosaic.Lib.Pointwise

@[expose] public section

noncomputable section
namespace Cert.Spec

open Idealize.ShloMosaic Finset Cert.Online

/-- The contents of the nine arguments, floats as extended reals. -/
structure Args where
  x : (⟨3, ![8, 4, 32768]⟩ : Shape).Idx → EReal
  qr : (⟨4, ![8, 4, 64, 64]⟩ : Shape).Idx → EReal
  ck : (⟨3, ![8, 131072, 512]⟩ : Shape).Idx → EReal
  cs : (⟨2, ![8, 131072]⟩ : Shape).Idx → EReal
  kr : (⟨3, ![8, 131072, 64]⟩ : Shape).Idx → EReal
  ln : (⟨1, ![8]⟩ : Shape).Idx → BitVec 32
  nk : (⟨3, ![8, 4, 512]⟩ : Shape).Idx → EReal
  ns : (⟨2, ![8, 4]⟩ : Shape).Idx → EReal
  nr : (⟨3, ![8, 4, 64]⟩ : Shape).Idx → EReal

variable (a : Args)

/-- All floats are real numbers. -/
structure Args.Real : Prop where
  x : ∀ i, ∃ r : ℝ, a.x i = r
  qr : ∀ i, ∃ r : ℝ, a.qr i = r
  ck : ∀ i, ∃ r : ℝ, a.ck i = r
  cs : ∀ i, ∃ r : ℝ, a.cs i = r
  kr : ∀ i, ∃ r : ℝ, a.kr i = r
  nk : ∀ i, ∃ r : ℝ, a.nk i = r
  ns : ∀ i, ∃ r : ℝ, a.ns i = r
  nr : ∀ i, ∃ r : ℝ, a.nr i = r

/-- Row `r` of a batch holds head `r % 64` of query token `r / 64`. -/
def q (b : Fin 8) (r : Fin 256) (k : Fin 512) : EReal :=
  a.x (ix3 b (⟨r.val / 64, by omega⟩ : Fin 4) (⟨r.val % 64 * 512 + k.val, by omega⟩ : Fin 32768))
def rope (b : Fin 8) (r : Fin 256) (k : Fin 64) : EReal :=
  a.qr (ix4 b (⟨r.val / 64, by omega⟩ : Fin 4) (⟨r.val % 64, by omega⟩ : Fin 64) k)

/-- The score of a key of the cache, and of a new token. -/
def key (b : Fin 8) (r : Fin 256) (p : Fin 131072) : EReal :=
  (∑ k, q a b r k * a.ck (ix3 b p k)) * a.cs (ix2 b p) + ∑ k, rope a b r k * a.kr (ix3 b p k)
def tok (b : Fin 8) (r : Fin 256) (t : Fin 4) : EReal :=
  (∑ k, q a b r k * a.nk (ix3 b t k)) * a.ns (ix2 b t) + ∑ k, rope a b r k * a.nr (ix3 b t k)

/-- The masked scores. -/
def fK (b : Fin 8) (r : Fin 256) (p : ℕ) : EReal :=
  if h : p < 131072 then (if (p : ℤ) < (a.ln (ix1 b)).toInt then key a b r ⟨p, h⟩ else ⊥) else ⊥
def fN (b : Fin 8) (r : Fin 256) (t : Fin 128) : EReal :=
  if h : t.val ≤ r.val / 64 then tok a b r ⟨t.val, by omega⟩ else ⊥

/-- The scale and the code of a key, and of a new token. -/
def wK (b : Fin 8) (p : ℕ) : ℝ := if h : p < 131072 then (a.cs (ix2 b ⟨p, h⟩)).toReal else 0
def vK (b : Fin 8) (d : Fin 512) (p : ℕ) : ℝ := if h : p < 131072 then (a.ck (ix3 b ⟨p, h⟩ d)).toReal else 0
def wN (b : Fin 8) (t : Fin 128) : ℝ := if h : t.val < 4 then (a.ns (ix2 b ⟨t.val, h⟩)).toReal else 0
def vN (b : Fin 8) (d : Fin 512) (t : Fin 128) : ℝ := if h : t.val < 4 then (a.nk (ix3 b ⟨t.val, h⟩ d)).toReal else 0

def den (b : Fin 8) (r : Fin 256) (n : ℕ) : ℝ := acc (fN a b r) (fK a b r) (fun _ => 1) (fun _ => 1) n
def num (b : Fin 8) (r : Fin 256) (d : Fin 512) (n : ℕ) : ℝ :=
  acc (fN a b r) (fK a b r) (fun t => wN a b t * vN a b d t) (fun p => wK a b p * vK a b d p) n

theorem coe_of {y : EReal} (h : ∃ r : ℝ, y = r) : ((y.toReal : ℝ) : EReal) = y := by
  obtain ⟨r, rfl⟩ := h; rfl

theorem n128 : 128 * 1024 = 131072 := by norm_num

theorem dot_real {n : ℕ} {u v : Fin n → EReal} (hu : ∀ k, ∃ r : ℝ, u k = r) (hv : ∀ k, ∃ r : ℝ, v k = r) :
    ∃ r : ℝ, ∑ k, u k * v k = r := by
  choose U hU using hu
  choose V hV using hv
  exact ⟨∑ k, U k * V k, by rw [coe_sum]; exact Finset.sum_congr rfl fun k _ => by rw [hU, hV, EReal.coe_mul]⟩

theorem lin_real {s c t : EReal} (hs : ∃ r : ℝ, s = r) (hc : ∃ r : ℝ, c = r) (ht : ∃ r : ℝ, t = r) : ∃ r : ℝ, s * c + t = r := by
  obtain ⟨s, rfl⟩ := hs; obtain ⟨c, rfl⟩ := hc; obtain ⟨t, rfl⟩ := ht
  exact ⟨s * c + t, by rw [EReal.coe_add, EReal.coe_mul]⟩

variable {a} (ha : a.Real)
include ha

theorem key_real (b : Fin 8) (r : Fin 256) (p : Fin 131072) : ∃ z : ℝ, key a b r p = z :=
  lin_real (dot_real (fun _ => ha.x _) fun _ => ha.ck _) (ha.cs _) (dot_real (fun _ => ha.qr _) fun _ => ha.kr _)

theorem tok_real (b : Fin 8) (r : Fin 256) (t : Fin 4) : ∃ z : ℝ, tok a b r t = z :=
  lin_real (dot_real (fun _ => ha.x _) fun _ => ha.nk _) (ha.ns _) (dot_real (fun _ => ha.qr _) fun _ => ha.nr _)

theorem fK_ne_top (b : Fin 8) (r : Fin 256) (p : ℕ) : fK a b r p ≠ ⊤ := by
  unfold fK
  split
  · split
    · obtain ⟨z, hz⟩ := key_real ha b r ⟨p, by assumption⟩
      rw [hz]; exact EReal.coe_ne_top z
    · exact bot_ne_top
  · exact bot_ne_top

theorem fN_ne_top (b : Fin 8) (r : Fin 256) (t : Fin 128) : fN a b r t ≠ ⊤ := by
  unfold fN
  split
  · obtain ⟨z, hz⟩ := tok_real ha b r ⟨t.val, by omega⟩
    rw [hz]; exact EReal.coe_ne_top z
  · exact bot_ne_top

theorem fN_zero (b : Fin 8) (r : Fin 256) : fN a b r 0 ≠ ⊥ := by
  unfold fN
  rw [dif_pos (show (0 : Fin 128).val ≤ r.val / 64 from Nat.zero_le _)]
  obtain ⟨z, hz⟩ := tok_real ha b r ⟨0, by omega⟩
  exact fun h => EReal.coe_ne_bot z (hz ▸ h)

theorem den_pos (b : Fin 8) (r : Fin 256) (n : ℕ) : 0 < den a b r n :=
  Online.den_pos (fN_ne_top ha b r) (fN_zero ha b r) n

/-- The quotient that the kernel takes at the end. -/
theorem quot (b : Fin 8) (r : Fin 256) (d : Fin 512) :
    Ideal.div (num a b r d 128 : EReal) (den a b r 128 : EReal) = ((num a b r d 128 / den a b r 128 : ℝ) : EReal) := by
  rw [Ideal.div_coe (den_pos ha b r 128).ne', ← EReal.coe_mul, mul_one_div]

omit ha in
theorem sum_four {M : Type} [AddCommMonoid M] (g : Fin 128 → M) (hg : ∀ t, 4 ≤ t.val → g t = 0) :
    ∑ t, g t = ∑ t : Fin 4, g ⟨t.val, by omega⟩ := by
  have h := Fin.sum_univ_add (a := 4) (b := 124) g
  rw [h]
  have h2 : ∑ t : Fin 124, g (Fin.natAdd 4 t) = 0 := Finset.sum_eq_zero fun t _ => hg _ (by simp [Fin.natAdd])
  rw [h2, add_zero]
  rfl

omit ha in
theorem fN_dead (b : Fin 8) (r : Fin 256) (t : Fin 128) (ht : 4 ≤ t.val) : fN a b r t = ⊥ :=
  dif_neg (by omega)

omit ha in
theorem sup_scale {ι : Type*} (s : Finset ι) (f : ι → EReal) :
    (s.sup fun k => f k * (sig : EReal)) = s.sup f * (sig : EReal) := by
  have hm : Monotone fun y : EReal => y * (sig : EReal) := fun u v h =>
    mul_le_mul_of_nonneg_right h (by exact_mod_cast sig_pos.le)
  exact (Finset.comp_sup_eq_sup_comp_of_is_total (fun y : EReal => y * (sig : EReal)) hm
    (EReal.bot_mul_coe_of_pos sig_pos)).symm

omit ha in
theorem sup_four (b : Fin 8) (r : Fin 256) :
    Finset.univ.sup (fN a b r) = Finset.univ.sup fun t : Fin 4 => fN a b r ⟨t.val, by omega⟩ := by
  apply le_antisymm
  · refine Finset.sup_le fun t _ => ?_
    by_cases h : t.val < 4
    · exact Finset.le_sup (f := fun t : Fin 4 => fN a b r ⟨t.val, by omega⟩) (Finset.mem_univ (⟨t.val, h⟩ : Fin 4))
    · rw [fN_dead b r t (by omega)]; exact bot_le
  · exact Finset.sup_le fun t _ => Finset.le_sup (f := fN a b r) (Finset.mem_univ _)

omit ha in
theorem sup_flat (f : ℕ → EReal) : (range (128 * 1024)).sup f = Finset.univ.sup fun p : Fin 131072 => f p.val := by
  apply le_antisymm
  · refine Finset.sup_le fun p hp => ?_
    exact Finset.le_sup (f := fun p : Fin 131072 => f p.val) (Finset.mem_univ (⟨p, by have := Finset.mem_range.mp hp; omega⟩ : Fin 131072))
  · exact Finset.sup_le fun p _ => Finset.le_sup (f := f) (Finset.mem_range.mpr (by have := p.isLt; omega))

/-- The reference's maximum. -/
theorem max_ref (b : Fin 8) (r : Fin 256) :
    max (Finset.univ.sup fun p : Fin 131072 => fK a b r p.val * (sig : EReal))
        (Finset.univ.sup fun t : Fin 4 => fN a b r ⟨t.val, by omega⟩ * (sig : EReal))
      = ((top (fN a b r) (fK a b r) 128).toReal : EReal) * (sig : EReal) := by
  rw [sup_scale, sup_scale, ← sup_flat (fK a b r), ← sup_four, coe_top (fN_ne_top ha b r) (fN_zero ha b r) (fK_ne_top ha b r), top_eq]
  have hm : Monotone fun y : EReal => y * (sig : EReal) := fun u v h =>
    mul_le_mul_of_nonneg_right h (by exact_mod_cast sig_pos.le)
  rw [max_comm]
  exact (hm.map_max).symm

/-- The reference's denominator. -/
theorem den_ref (b : Fin 8) (r : Fin 256) {M : EReal} (hM : M = ((top (fN a b r) (fK a b r) 128).toReal : EReal) * (sig : EReal)) :
    (∑ p : Fin 131072, Ideal.exp (fK a b r p.val * (sig : EReal) - M))
        + ∑ t : Fin 4, Ideal.exp (fN a b r ⟨t.val, by omega⟩ * (sig : EReal) - M)
      = (den a b r 128 : EReal) := by
  subst hM
  simp only [exp_eq _ _ (fK_ne_top ha b r _), exp_eq _ _ (fN_ne_top ha b r _)]
  rw [← coe_sum, ← coe_sum, ← EReal.coe_add]
  refine congrArg (fun z : ℝ => (z : EReal)) ?_
  unfold den acc tot
  rw [n128, Finset.sum_range, add_comm]
  rw [sum_four (fun t => e (top (fN a b r) (fK a b r) 128).toReal (fN a b r t) * 1)
    (fun t ht => by rw [fN_dead b r t ht, e_bot, zero_mul])]
  simp only [mul_one]

/-- The reference's result is the same quotient. -/
theorem out_ref (b : Fin 8) (r : Fin 256) (d : Fin 512) {M D : EReal}
    (hM : M = ((top (fN a b r) (fK a b r) 128).toReal : EReal) * (sig : EReal)) (hD : D = (den a b r 128 : EReal)) :
    (∑ p : Fin 131072, Ideal.div (Ideal.exp (fK a b r p.val * (sig : EReal) - M)) D * a.cs (ix2 b p) * a.ck (ix3 b p d))
        + ∑ t : Fin 4, Ideal.div (Ideal.exp (fN a b r ⟨t.val, by omega⟩ * (sig : EReal) - M)) D * a.ns (ix2 b t) * a.nk (ix3 b t d)
      = ((num a b r d 128 / den a b r 128 : ℝ) : EReal) := by
  subst hM hD
  have h1 : ∀ p : Fin 131072, a.cs (ix2 b p) = ((wK a b p.val : ℝ) : EReal) := fun p => by
    unfold wK; rw [dif_pos p.isLt, coe_of (ha.cs _)]
  have h2 : ∀ p : Fin 131072, a.ck (ix3 b p d) = ((vK a b d p.val : ℝ) : EReal) := fun p => by
    unfold vK; rw [dif_pos p.isLt, coe_of (ha.ck _)]
  have h3 : ∀ t : Fin 4, a.ns (ix2 b t) = ((wN a b ⟨t.val, by omega⟩ : ℝ) : EReal) := fun t => by
    unfold wN; rw [dif_pos t.isLt, coe_of (ha.ns _)]
  have h4 : ∀ t : Fin 4, a.nk (ix3 b t d) = ((vN a b d ⟨t.val, by omega⟩ : ℝ) : EReal) := fun t => by
    unfold vN; rw [dif_pos t.isLt, coe_of (ha.nk _)]
  simp only [exp_eq _ _ (fK_ne_top ha b r _), exp_eq _ _ (fN_ne_top ha b r _), Ideal.div_coe (den_pos ha b r 128).ne', h1, h2, h3, h4]
  simp only [← EReal.coe_mul]
  rw [← coe_sum, ← coe_sum, ← EReal.coe_add]
  refine congrArg (fun z : ℝ => (z : EReal)) ?_
  have hn : num a b r d 128 = (∑ p : Fin 131072, e (top (fN a b r) (fK a b r) 128).toReal (fK a b r p.val) * (wK a b p.val * vK a b d p.val))
      + ∑ t : Fin 4, e (top (fN a b r) (fK a b r) 128).toReal (fN a b r ⟨t.val, by omega⟩)
          * (wN a b ⟨t.val, by omega⟩ * vN a b d ⟨t.val, by omega⟩) := by
    unfold num acc tot
    rw [n128, Finset.sum_range, add_comm]
    refine congrArg₂ (· + ·) rfl ?_
    exact sum_four (fun t => e (top (fN a b r) (fK a b r) 128).toReal (fN a b r t) * (wN a b t * vN a b d t))
      (fun t ht => by rw [fN_dead b r t ht, e_bot, zero_mul])
  rw [hn, add_div, Finset.sum_div, Finset.sum_div]
  refine congrArg₂ (· + ·) ?_ ?_
  · exact Finset.sum_congr rfl fun p _ => by ring
  · exact Finset.sum_congr rfl fun p _ => by ring

end Cert.Spec

end
-- ==== Proof.Pre.lean ====
/- The precondition read: every float argument is a real number, and no length is above 2147482624. -/
module

public import proofs.«01_k».proof.Proof.Gen.Pre_pre
public import proofs.«01_k».proof.Proof.Spec

@[expose] public section

noncomputable section

namespace Cert.PreRead

open Idealize.ShloMosaic Cert.Pre_pre Cert.Spec

theorem top16 : (FloatOps.ofBits (F := Ideal) .bf16 0x7F80#16 : EReal) = ⊤ := by
  show Ideal.ofBits .bf16 0x7F80#16 = ⊤
  simp [Ideal.ofBits, Ideal.ieee]

theorem top32 : (FloatOps.ofBits (F := Ideal) .f32 0x7F800000#32 : EReal) = ⊤ := by
  show Ideal.ofBits .f32 0x7F800000#32 = ⊤
  simp [Ideal.ofBits, Ideal.ieee]

/-- A number whose absolute value is below infinity is real. -/
theorem real_of {φ : FTy} {x t : Ideal φ} (ht : (t : EReal) = ⊤) (h : FloatOps.cmpf .olt (FloatOps.hostAbsf x) t = 1#1) : ∃ r : ℝ, (x : EReal) = r := by
  have h' : max (x : EReal) (-x) < ⊤ := by
    by_contra hn
    rw [← ht] at hn
    have e : FloatOps.cmpf .olt (FloatOps.hostAbsf x) t = BitVec.ofBool (decide (max (x : EReal) (-x) < t)) := rfl
    rw [e, decide_eq_false hn] at h
    exact absurd h (by decide)
  refine ⟨(x : EReal).toReal, (EReal.coe_toReal ?_ ?_).symm⟩
  · rintro e
    rw [e] at h'
    simp at h'
  · rintro e
    rw [e] at h'
    simp at h'

theorem real (a : Args) (h : (fn (F := Ideal) a.x a.qr a.ck a.cs a.kr a.ln a.nk a.ns a.nr) = (fun _ => 1#1, fun _ => 1#1, fun _ => 1#1, fun _ => 1#1, fun _ => 1#1, fun _ => 1#1, fun _ => 1#1, fun _ => 1#1, fun _ => 1#1)) :
    a.Real ∧ ∀ b : Fin 8, (a.ln (ix1 b)).toInt ≤ 2147482624 := by
  simp only [fn, fn_part1, Prod.mk.injEq] at h
  obtain ⟨h0, h1, h2, h3, h4, h5, h6, h7, h8⟩ := h
  refine ⟨⟨fun i => real_of top16 (congrFun h0 i), fun i => real_of top16 (congrFun h1 i), fun i => real_of top32 (congrFun h2 i), fun i => real_of top32 (congrFun h3 i),
    fun i => real_of top16 (congrFun h4 i), fun i => real_of top32 (congrFun h6 i), fun i => real_of top32 (congrFun h7 i), fun i => real_of top16 (congrFun h8 i)⟩, fun b => ?_⟩
  have e : BitVec.ofBool (BitVec.sle (a.ln (ix1 b)) 2147482624#32) = 1#1 := congrFun h5 (ix1 b)
  rw [BitVec.sle_eq_decide] at e
  by_contra hn
  rw [decide_eq_false (by simpa using hn)] at e
  exact absurd e (by decide)

end Cert.PreRead

end
-- ==== Proof.Blocks.lean ====
/- What the kernel's windows hold at a grid point, at the coordinates of the arguments. -/
module

public import proofs.«01_k».proof.Proof.TableIdeal
public import Idealize.ShloMosaic.Lib.Claim
public import Idealize.ShloMosaic.Lib.Pointwise
public import Idealize.ShloMosaic.Lib.Pipeline.ValueKit.Point

@[expose] public section

set_option maxRecDepth 16384

noncomputable section

namespace Cert.KernelIdeal.Blocks

open Idealize.ShloMosaic Idealize.ShloMosaic.TcCoe Idealize.SL.Sem Cert.KernelIdeal Cert.KernelIdeal.Gen Cert.Words

variable (m : (ℓ : Loc nD τ sig) → Buf (Elt Ideal) ℓ) (hO : Ok m) (c : Dev nD)

/-- The batch of a grid point. -/
abbrev bt (t : Fin (cfgM m hO).N) : Fin 8 := grid0.coords t 0

/-- The block of keys that the index maps choose at a grid point. -/
abbrev pick (t : Fin (cfgM m hO).N) : ℕ := (clamp (BitVec.ofNat 32 (grid0.coords t 1).val) (Table.len (tbl m) (grid0.coords t))).toNat

theorem bt_word (t : Fin (cfgM m hO).N) : (BitVec.ofNat 32 (grid0.coords t 0).val).toNat = (bt m hO t).val := by
  have h : (grid0.coords t 0).val < 8 := (grid0.coords t 0).isLt
  simp [BitVec.toNat_ofNat]; omega

theorem idx0 (t : Fin (cfgM m hO).N) : ((cfgM m hO).win 0).index t = ![(bt m hO t).val, 0, 0] := by
  rw [← bt_word]; rfl
theorem idx1 (t : Fin (cfgM m hO).N) : ((cfgM m hO).win 1).index t = ![(bt m hO t).val, 0, 0] := by
  rw [← bt_word]; rfl
theorem idx2 (t : Fin (cfgM m hO).N) : ((cfgM m hO).win 2).index t = ![(bt m hO t).val, pick m hO t, 0] := by
  rw [← bt_word]; rfl
theorem idx3 (t : Fin (cfgM m hO).N) : ((cfgM m hO).win 3).index t = ![0, pick m hO t] := rfl
theorem idx4 (t : Fin (cfgM m hO).N) : ((cfgM m hO).win 4).index t = ![(bt m hO t).val, pick m hO t, 0] := by
  rw [← bt_word]; rfl
theorem idx5 (t : Fin (cfgM m hO).N) : ((cfgM m hO).win 5).index t = ![(bt m hO t).val, 0, 0] := by
  rw [← bt_word]; rfl
theorem idx6 (t : Fin (cfgM m hO).N) : ((cfgM m hO).win 6).index t = ![0, 0] := rfl
theorem idx7 (t : Fin (cfgM m hO).N) : ((cfgM m hO).win 7).index t = ![(bt m hO t).val, 0, 0] := by
  rw [← bt_word]; rfl

theorem b3 (t : Fin (cfgM m hO).N) (j : Fin 128) (hj : pick m hO t = j.val) (b : Fin 8) (k : Fin 1024) :
    (iblk m hO c 3 t : Vec Ideal S8x1024 .f32) (ix2 b k)
      = m ((c : Thread nD τ).loc main_arg3) (ix2 b (⟨j.val * 1024 + k.val, by omega⟩ : Fin 131072)) := by
  have hi := idx3 m hO t
  rw [hj] at hi
  blk_ext [iblk, V_main_arg3, hi]

theorem b4 (t : Fin (cfgM m hO).N) (j : Fin 128) (hj : pick m hO t = j.val) (k : Fin 1024) (x : Fin 64) :
    (iblk m hO c 4 t : Vec Ideal S1x1024x64 .bf16) (ix3 0 k x)
      = m ((c : Thread nD τ).loc main_arg4) (ix3 (bt m hO t) (⟨j.val * 1024 + k.val, by omega⟩ : Fin 131072) x) := by
  have hi := idx4 m hO t
  rw [hj] at hi
  blk_ext [iblk, V_main_arg4, hi]

theorem b2 (t : Fin (cfgM m hO).N) (j : Fin 128) (hj : pick m hO t = j.val) (k : Fin 1024) (x : Fin 512) :
    (iblk m hO c 2 t : Vec Ideal S1x1024x512 .fp8e4m3) (ix3 0 k x)
      = m ((c : Thread nD τ).loc main_arg2) (ix3 (bt m hO t) (⟨j.val * 1024 + k.val, by omega⟩ : Fin 131072) x) := by
  have hi := idx2 m hO t
  rw [hj] at hi
  unfold iblk
  entry_read
  blk_ext [hi]

theorem b5 (t : Fin (cfgM m hO).N) (k : Fin 4) (x : Fin 512) :
    (iblk m hO c 5 t : Vec Ideal S1x4x512 .fp8e4m3) (ix3 0 k x)
      = m ((c : Thread nD τ).loc main_arg6) (ix3 (bt m hO t) k x) := by
  have hi := idx5 m hO t
  unfold iblk
  entry_read
  blk_ext [hi]

theorem flat_x {α : Type} (v : S8x4x32768.Idx → α) (h : S8x4x32768.ShapeCasts S8x256x512) (b : Fin 8) (r : Fin 256) (x : Fin 512) :
    shapeCast S8x256x512 v h (ix3 b r x) = v (ix3 b (⟨r.val / 64, by omega⟩ : Fin 4) (⟨r.val % 64 * 512 + x.val, by omega⟩ : Fin 32768)) := by
  refine shapeCast_apply v h _ _ ?_
  rw [Shape.rowMajor_val_three, Shape.rowMajor_val_three]
  show (b.val * 4 + r.val / 64) * 32768 + (r.val % 64 * 512 + x.val) = (b.val * 256 + r.val) * 512 + x.val
  omega

theorem flat_rope {α : Type} (v : S8x4x64x64.Idx → α) (h : S8x4x64x64.ShapeCasts S8x256x64) (b : Fin 8) (r : Fin 256) (x : Fin 64) :
    shapeCast S8x256x64 v h (ix3 b r x) = v (ix4 b (⟨r.val / 64, by omega⟩ : Fin 4) (⟨r.val % 64, by omega⟩ : Fin 64) x) := by
  refine shapeCast_apply v h _ _ ?_
  rw [Shape.rowMajor_val_three, Shape.rowMajor_val_four]
  show ((b.val * 4 + r.val / 64) * 64 + r.val % 64) * 64 + x.val = (b.val * 256 + r.val) * 64 + x.val
  omega

theorem V_v0 : (V m c main_v0 : Vec Ideal S8x256x512 .bf16) = shapeCast S8x256x512 (m ((c : Thread nD τ).loc main_arg0) : Vec Ideal S8x4x32768 .bf16) shapeCasts_S8x4x32768_S8x256x512 := rfl

theorem V_v1 : (V m c main_v1 : Vec Ideal S8x256x64 .bf16) = shapeCast S8x256x64 (m ((c : Thread nD τ).loc main_arg1) : Vec Ideal S8x4x64x64 .bf16) shapeCasts_S8x4x64x64_S8x256x64 := rfl

theorem V_v2 : (V m c main_v2 : Vec Ideal S8x128 .f32) = pad S8x128 ![0, 0] ![0, 124] ![0, 0] (m ((c : Thread nD τ).loc main_arg7) : Vec Ideal S8x4 .f32) (sitofp (F := Ideal) .f32 (constantI S_ 32 0#32)) pads_S8x4_S8x128_000_01240 h_S_ := rfl

theorem V_v3 : (V m c main_v3 : Vec Ideal S8x128x64 .bf16) = pad S8x128x64 ![0, 0, 0] ![0, 124, 0] ![0, 0, 0] (m ((c : Thread nD τ).loc main_arg8) : Vec Ideal S8x4x64 .bf16) (sitofp (F := Ideal) .bf16 (constantI S_ 32 0#32)) pads_S8x4x64_S8x128x64_000_01240_000 h_S_ := rfl

theorem b0 (t : Fin (cfgM m hO).N) (r : Fin 256) (x : Fin 512) :
    (iblk m hO c 0 t : Vec Ideal S1x256x512 .bf16) (ix3 0 r x)
      = m ((c : Thread nD τ).loc main_arg0) (ix3 (bt m hO t) (⟨r.val / 64, by omega⟩ : Fin 4) (⟨r.val % 64 * 512 + x.val, by omega⟩ : Fin 32768)) := by
  have hi := idx0 m hO t
  have e : (V m c main_v0 : Vec Ideal S8x256x512 .bf16) (ix3 (bt m hO t) r x) = m ((c : Thread nD τ).loc main_arg0) (ix3 (bt m hO t) (⟨r.val / 64, by omega⟩ : Fin 4) (⟨r.val % 64 * 512 + x.val, by omega⟩ : Fin 32768)) := by
    rw [V_v0, flat_x]
  rw [← e]
  show V m c main_v0 _ = V m c main_v0 _
  blk_ext [hi]

theorem b1 (t : Fin (cfgM m hO).N) (r : Fin 256) (x : Fin 64) :
    (iblk m hO c 1 t : Vec Ideal S1x256x64 .bf16) (ix3 0 r x)
      = m ((c : Thread nD τ).loc main_arg1) (ix4 (bt m hO t) (⟨r.val / 64, by omega⟩ : Fin 4) (⟨r.val % 64, by omega⟩ : Fin 64) x) := by
  have hi := idx1 m hO t
  have e : (V m c main_v1 : Vec Ideal S8x256x64 .bf16) (ix3 (bt m hO t) r x) = m ((c : Thread nD τ).loc main_arg1) (ix4 (bt m hO t) (⟨r.val / 64, by omega⟩ : Fin 4) (⟨r.val % 64, by omega⟩ : Fin 64) x) := by
    rw [V_v1, flat_rope]
  rw [← e]
  show V m c main_v1 _ = V m c main_v1 _
  blk_ext [hi]

theorem b6 (t : Fin (cfgM m hO).N) (b : Fin 8) (k : Fin 128) :
    (iblk m hO c 6 t : Vec Ideal S8x128 .f32) (ix2 b k)
      = if h : k.val < 4 then (m ((c : Thread nD τ).loc main_arg7) (ix2 b (⟨k.val, h⟩ : Fin 4)) : EReal) else (0 : EReal) := by
  have hi := idx6 m hO t
  have e : (V m c main_v2 : Vec Ideal S8x128 .f32) (ix2 b k) = if h : k.val < 4 then (m ((c : Thread nD τ).loc main_arg7) (ix2 b (⟨k.val, h⟩ : Fin 4)) : EReal) else (0 : EReal) := by
    rw [V_v2]
    pointwise
    by_cases h : k.val < 4
    · rw [dif_pos h, dif_pos]
      intro a
      fin_cases a
      · show 0 ≤ b.val ∧ (b.val - 0) % 1 = 0 ∧ (b.val - 0) / 1 < 8
        omega
      · show 0 ≤ k.val ∧ (k.val - 0) % 1 = 0 ∧ (k.val - 0) / 1 < 4
        omega
    · rw [dif_neg h, dif_neg (fun H => h ?_)]
      · show (((0#32 : BitVec 32).toInt : ℝ) : EReal) = 0
        simp
      · have := (H (1 : Fin 2)).2.2
        change (k.val - 0) / 1 < 4 at this
        omega
  rw [← e]
  show V m c main_v2 _ = V m c main_v2 _
  blk_ext [hi]

theorem b7 (t : Fin (cfgM m hO).N) (k : Fin 128) (x : Fin 64) :
    (iblk m hO c 7 t : Vec Ideal S1x128x64 .bf16) (ix3 0 k x)
      = if h : k.val < 4 then (m ((c : Thread nD τ).loc main_arg8) (ix3 (bt m hO t) (⟨k.val, h⟩ : Fin 4) x) : EReal) else (0 : EReal) := by
  have hi := idx7 m hO t
  have e : (V m c main_v3 : Vec Ideal S8x128x64 .bf16) (ix3 (bt m hO t) k x) = if h : k.val < 4 then (m ((c : Thread nD τ).loc main_arg8) (ix3 (bt m hO t) (⟨k.val, h⟩ : Fin 4) x) : EReal) else (0 : EReal) := by
    rw [V_v3]
    pointwise
    by_cases h : k.val < 4
    · rw [dif_pos h, dif_pos]
      intro a
      fin_cases a
      · show 0 ≤ (bt m hO t).val ∧ ((bt m hO t).val - 0) % 1 = 0 ∧ ((bt m hO t).val - 0) / 1 < 8
        have := (bt m hO t).isLt
        omega
      · show 0 ≤ k.val ∧ (k.val - 0) % 1 = 0 ∧ (k.val - 0) / 1 < 4
        omega
      · show 0 ≤ x.val ∧ (x.val - 0) % 1 = 0 ∧ (x.val - 0) / 1 < 64
        omega
    · rw [dif_neg h, dif_neg (fun H => h ?_)]
      · show (((0#32 : BitVec 32).toInt : ℝ) : EReal) = 0
        simp
      · have := (H (1 : Fin 3)).2.2
        change (k.val - 0) / 1 < 4 at this
        omega
  rw [← e]
  show V m c main_v3 _ = V m c main_v3 _
  blk_ext [hi]

end Cert.KernelIdeal.Blocks

end
-- ==== Proof.Case.lean ====
module

public import proofs.«01_k».proof.Proof.FrameTopIdeal
public import Idealize.ShloMosaic.Lib.Pipeline.Value
public import Idealize.ShloMosaic.Lib.Pipeline.ValueKit.Acc
public import Idealize.ShloMosaic.Lib.Tactic

@[expose] public section

/-! # What each control case of the kernel leaves behind

The generated case values (`sout0_κ_w`, what case `κ` leaves in scratch `w`, and `out0_κ_8`, what it stores to the result) are
read here as the body's payloads on the blocks: `tokM`, `tokL`, `tokA` are the running maximum, denominator and
numerator after the new tokens alone, `blkM`, `blkL`, `blkA` the same after one more block of the cache, and `outV`
the quotient that is stored at the end. -/

set_option maxRecDepth 16384

noncomputable section

namespace Cert.KernelIdeal.Case

open Cert.KernelIdeal Cert.KernelIdeal.Gen
open Idealize.ShloMosaic Idealize.ShloMosaic.TcCoe Idealize.ShloMosaic.Tactic

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

theorem rowInb1024 (i : grid0.Coords) : ∀ a, (![(Scalar.indexCast (BitVec.ofNat 32 (i 0).val)).toNat, 0] : Fin 2 → Nat) a + (![1, 1024] : Fin 2 → Nat) a ≤ S8x1024.size a :=
  k0_off3_inb i

theorem rowInb128 (i : grid0.Coords) : ∀ a, (![(Scalar.indexCast (BitVec.ofNat 32 (i 0).val)).toNat, 0] : Fin 2 → Nat) a + (![1, 128] : Fin 2 → Nat) a ≤ S8x128.size a :=
  by
  intro a
  have h : (Scalar.indexCast (BitVec.ofNat 32 (i 0).val)).toNat + 1 ≤ 8 := k0_off3_inb i 0
  fin_cases a
  · exact h
  · exact le_refl 128

/-- The word of the prefetched table that belongs to the batch of point `i`. -/
def word (i : grid0.Coords) (xt0 : S8.Idx → Elt F .i32) : Elt F .i32 :=
  View.ld xt0 (Rect.unit (s := S8) (k0_off1 i) S1.size (k0_off1_inb i)) (Shape.Idx.first (numel1_S1.symm ▸ Nat.one_pos))

/-- The row of the block of cache scales that belongs to the batch of point `i`. -/
def row (i : grid0.Coords) (x3 : Vec F S8x1024 .f32) : Vec F S1x1024 .f32 :=
  View.ld x3 (Rect.unit (s := S8x1024) ![(Scalar.indexCast (BitVec.ofNat 32 (i 0).val)).toNat, 0] ![1, 1024] (rowInb1024 i))

/-- The row of the new tokens' scales that belongs to the batch of point `i`. -/
def nrow (i : grid0.Coords) (x6 : Vec F S8x128 .f32) : Vec F S1x128 .f32 :=
  View.ld x6 (Rect.unit (s := S8x128) ![(Scalar.indexCast (BitVec.ofNat 32 (i 0).val)).toNat, 0] ![1, 128] (rowInb128 i))

/-- The maximum after the new tokens. -/
def tokM (i : grid0.Coords) (x0 : Vec F S1x256x512 .bf16) (x1 : Vec F S1x256x64 .bf16) (x5 : Vec F S1x4x512 .fp8e4m3)
    (x6 : Vec F S8x128 .f32) (x7 : Vec F S1x128x64 .bf16) : Vec F S256x128 .f32 :=
  k0_pay19 (iota .tc S256x128 32 [0] iota_S256x128_d0_w32) (iota .tc S256x128 32 [1] iota_S256x128_d1_w32) (k0_pay10 x5) (k0_pay11 (nrow i x6)) (k0_pay12 x7) 64#32 k0_pay13 k0_pay14 1#32 0#1 x0 x1 k0_pay7

/-- The denominator after the new tokens. -/
def tokL (i : grid0.Coords) (x0 : Vec F S1x256x512 .bf16) (x1 : Vec F S1x256x64 .bf16) (x5 : Vec F S1x4x512 .fp8e4m3)
    (x6 : Vec F S8x128 .f32) (x7 : Vec F S1x128x64 .bf16) : Vec F S256x128 .f32 :=
  k0_pay1
    (k0_pay17 (iota .tc S256x128 32 [0] iota_S256x128_d0_w32) (iota .tc S256x128 32 [1] iota_S256x128_d1_w32) (k0_pay10 x5) (k0_pay11 (nrow i x6)) (k0_pay12 x7) 64#32 k0_pay13 k0_pay14 1#32 0#1 x0 x1 k0_pay7)
    (k0_pay18 (iota .tc S256x128 32 [0] iota_S256x128_d0_w32) (iota .tc S256x128 32 [1] iota_S256x128_d1_w32) (k0_pay10 x5) (k0_pay11 (nrow i x6)) (k0_pay12 x7) 64#32 k0_pay13 k0_pay14 1#32 0#1 x0 x1 k0_pay7)
    k0_pay8

/-- The numerator after the new tokens. -/
def tokA (i : grid0.Coords) (x0 : Vec F S1x256x512 .bf16) (x1 : Vec F S1x256x64 .bf16) (x5 : Vec F S1x4x512 .fp8e4m3)
    (x6 : Vec F S8x128 .f32) (x7 : Vec F S1x128x64 .bf16) : Vec F S256x512 .f32 :=
  k0_pay2 (k0_pay10 x5) (k0_pay11 (nrow i x6))
    (k0_pay17 (iota .tc S256x128 32 [0] iota_S256x128_d0_w32) (iota .tc S256x128 32 [1] iota_S256x128_d1_w32) (k0_pay10 x5) (k0_pay11 (nrow i x6)) (k0_pay12 x7) 64#32 k0_pay13 k0_pay14 1#32 0#1 x0 x1 k0_pay7)
    (k0_pay18 (iota .tc S256x128 32 [0] iota_S256x128_d0_w32) (iota .tc S256x128 32 [1] iota_S256x128_d1_w32) (k0_pay10 x5) (k0_pay11 (nrow i x6)) (k0_pay12 x7) 64#32 k0_pay13 k0_pay14 1#32 0#1 x0 x1 k0_pay7)
    k0_pay9

/-- The maximum after one more block. -/
def blkM (i : grid0.Coords) (v : Elt F .i32) (x0 : Vec F S1x256x512 .bf16) (x1 : Vec F S1x256x64 .bf16)
    (x2 : Vec F S1x1024x512 .fp8e4m3) (x3 : Vec F S8x1024 .f32) (x4 : Vec F S1x1024x64 .bf16)
    (xs0 : Vec F S256x128 .f32) : Vec F S256x128 .f32 :=
  k0_pay3 (k0_pay22 (BitVec.ofNat 32 (i 1).val) v x2 (row i x3) x4 x0 x1 xs0)

/-- The denominator after one more block. -/
def blkL (i : grid0.Coords) (v : Elt F .i32) (x0 : Vec F S1x256x512 .bf16) (x1 : Vec F S1x256x64 .bf16)
    (x2 : Vec F S1x1024x512 .fp8e4m3) (x3 : Vec F S8x1024 .f32) (x4 : Vec F S1x1024x64 .bf16)
    (xs0 xs1 : Vec F S256x128 .f32) : Vec F S256x128 .f32 :=
  k0_pay4 (k0_pay23 (BitVec.ofNat 32 (i 1).val) v x2 (row i x3) x4 x0 x1 xs0)
    (k0_pay24 (BitVec.ofNat 32 (i 1).val) v x2 (row i x3) x4 x0 x1 xs0) xs1

/-- The numerator after one more block. -/
def blkA (i : grid0.Coords) (v : Elt F .i32) (x0 : Vec F S1x256x512 .bf16) (x1 : Vec F S1x256x64 .bf16)
    (x2 : Vec F S1x1024x512 .fp8e4m3) (x3 : Vec F S8x1024 .f32) (x4 : Vec F S1x1024x64 .bf16)
    (xs0 : Vec F S256x128 .f32) (xs2 : Vec F S256x512 .f32) : Vec F S256x512 .f32 :=
  k0_pay5 (k0_pay20 x2) (row i x3) (k0_pay23 (BitVec.ofNat 32 (i 1).val) v x2 (row i x3) x4 x0 x1 xs0)
    (k0_pay24 (BitVec.ofNat 32 (i 1).val) v x2 (row i x3) x4 x0 x1 xs0) xs2

/-- The quotient that is stored. -/
def outV (xs1 : Vec F S256x128 .f32) (xs2 : Vec F S256x512 .f32) : Vec F S1x256x512 .bf16 :=
  k0_pay6 xs2 (View.ld xs1 (Rect.unit (s := S256x128) ![0, 0] ![256, 1] inb_S256x128_S256x1_0_0))

theorem rc128 (v : View sig .tc .vmem S256x128 .f32) (w : Vec F S256x128 .f32)
    (L : List (View.Piece (Elt F) S256x128 .f32)) :
    v.readCov (⟨Rect.unit (s := S256x128) ![0, 0] ![256, 128] inb_S256x128_S256x128_0_0, w⟩ :: L)
      (Rect.unit (s := S256x128) ![0, 0] ![256, 128] inb_S256x128_S256x128_0_0).toLoadRect = w :=
  View.readCov_cons_unit_lit' (S := S256x128) v _ _ w L (congrFun hz2) (congrFun hz2)

theorem rc512 (v : View sig .tc .vmem S256x512 .f32) (w : Vec F S256x512 .f32)
    (L : List (View.Piece (Elt F) S256x512 .f32)) :
    v.readCov (⟨Rect.unit (s := S256x512) ![0, 0] ![256, 512] inb_S256x512_S256x512_0_0, w⟩ :: L)
      (Rect.unit (s := S256x512) ![0, 0] ![256, 512] inb_S256x512_S256x512_0_0).toLoadRect = w :=
  View.readCov_cons_unit_lit' (S := S256x512) v _ _ w L (congrFun hz2) (congrFun hz2)

theorem rcCol (v : View sig .tc .vmem S256x128 .f32) (w : Vec F S256x128 .f32)
    (L : List (View.Piece (Elt F) S256x128 .f32)) :
    v.readCov (⟨Rect.unit (s := S256x128) ![0, 0] ![256, 128] inb_S256x128_S256x128_0_0, w⟩ :: L)
      (Rect.unit (s := S256x128) ![0, 0] ![256, 1] inb_S256x128_S256x1_0_0).toLoadRect
      = View.ld w (Rect.unit (s := S256x128) ![0, 0] ![256, 1] inb_S256x128_S256x1_0_0) := by
  rw [View.readCov_eq_canon_ld _ _ _ (fun y => ⟨_, List.mem_cons_self,
    by
      have h := View.mem_set_unit_zero (S := S256x128) hz2 inb_S256x128_S256x128_0_0 y
      exact h⟩), View.canon_cons_unit_zero (S := S256x128) hz2]

theorem sout0_A_0_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) :
    sout0_A_0 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1 = blkM i (word i xt0) x0 x1 x2 x3 x4 (tokM i x0 x1 x5 x6 x7) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1)]
  unfold kernelRun0_A
  dsimp only
  sl_unfold_words
  rw [View.canon_cons_unit_zero (S := S256x128) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem sout0_A_1_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) :
    sout0_A_1 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1 = blkL i (word i xt0) x0 x1 x2 x3 x4 (tokM i x0 x1 x5 x6 x7) (tokL i x0 x1 x5 x6 x7) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1)]
  unfold kernelRun0_A
  dsimp only
  sl_unfold_words
  rw [View.canon_cons_unit_zero (S := S256x128) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem sout0_A_2_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) :
    sout0_A_2 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1 = blkA i (word i xt0) x0 x1 x2 x3 x4 (tokM i x0 x1 x5 x6 x7) (tokA i x0 x1 x5 x6 x7) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1)]
  unfold kernelRun0_A
  dsimp only
  sl_unfold_words
  rw [View.canon_cons_unit_zero (S := S256x512) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem sout0_B_0_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) :
    sout0_B_0 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1 = tokM i x0 x1 x5 x6 x7 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1)]
  unfold kernelRun0_B
  dsimp only
  sl_unfold_words
  rw [View.canon_cons_unit_zero (S := S256x128) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem sout0_B_1_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) :
    sout0_B_1 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1 = tokL i x0 x1 x5 x6 x7 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1)]
  unfold kernelRun0_B
  dsimp only
  sl_unfold_words
  rw [View.canon_cons_unit_zero (S := S256x128) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem sout0_B_2_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : cond0_0 i) (hc2 : ¬cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (hc1 : ¬cond0_1 i (tbM0_0.view.readAt (Elt F) (Rect.unit (s := S8) (k0_off1 i) S1.size (k0_off1_inb i)).toLoadRect xt0 (Shape.Idx.first (numel1_S1.symm ▸ Nat.one_pos)))) :
    sout0_B_2 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1 = tokA i x0 x1 x5 x6 x7 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 hc1)]
  unfold kernelRun0_B
  dsimp only
  sl_unfold_words
  rw [View.canon_cons_unit_zero (S := S256x512) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem sout0_C_0_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) :
    sout0_C_0 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1 = blkM i (word i xt0) x0 x1 x2 x3 x4 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1)]
  unfold kernelRun0_C
  dsimp only
  sl_unfold_words
  rw [View.canon_unit_zero (S := S256x128) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem sout0_C_1_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) :
    sout0_C_1 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1 = blkL i (word i xt0) x0 x1 x2 x3 x4 xs0 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1)]
  unfold kernelRun0_C
  dsimp only
  sl_unfold_words
  rw [View.canon_unit_zero (S := S256x128) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem sout0_C_2_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : ¬cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) :
    sout0_C_2 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1 = blkA i (word i xt0) x0 x1 x2 x3 x4 xs0 xs2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1)]
  unfold kernelRun0_C
  dsimp only
  sl_unfold_words
  rw [View.canon_unit_zero (S := S256x512) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem sout0_E_0_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) :
    sout0_E_0 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1 = blkM i (word i xt0) x0 x1 x2 x3 x4 xs0 := by
  unfold sout0_E_0
  rw [View.read_writes_eq_canon _ _ _ (scover0_E_0 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1)]
  unfold kernelRun0_E
  dsimp only
  sl_unfold_words
  rw [View.canon_unit_zero (S := S256x128) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem sout0_E_1_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) :
    sout0_E_1 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1 = blkL i (word i xt0) x0 x1 x2 x3 x4 xs0 xs1 := by
  unfold sout0_E_1
  rw [View.read_writes_eq_canon _ _ _ (scover0_E_1 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1)]
  unfold kernelRun0_E
  dsimp only
  sl_unfold_words
  rw [View.canon_unit_zero (S := S256x128) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem sout0_E_2_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) :
    sout0_E_2 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1 = blkA i (word i xt0) x0 x1 x2 x3 x4 xs0 xs2 := by
  unfold sout0_E_2
  rw [View.read_writes_eq_canon _ _ _ (scover0_E_2 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1)]
  unfold kernelRun0_E
  dsimp only
  sl_unfold_words
  rw [View.canon_unit_zero (S := S256x512) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem out0_E_8_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : cond0_1 i (tbM0_0.view.readAt (Elt F) (Rect.unit (s := S8) (k0_off1 i) S1.size (k0_off1_inb i)).toLoadRect xt0 (Shape.Idx.first (numel1_S1.symm ▸ Nat.one_pos)))) :
    out0_E_8 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1 = outV (blkL i (word i xt0) x0 x1 x2 x3 x4 xs0 xs1) (blkA i (word i xt0) x0 x1 x2 x3 x4 xs0 xs2) := by
  unfold out0_E_8
  rw [View.read_writes_eq_canon _ _ _ (cover0_E_8 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1)]
  unfold kernelRun0_E
  dsimp only
  sl_unfold_words
  rw [View.canon_unit_zero (S := S1x256x512) hz3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, rcCol, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

theorem out0_F_8_eq (c : Dev nD) (i : grid0.Coords) (arg3 : Memref sig .tc .vmem S1x256x512 .bf16) (harg3 : arg3.IsWhole) (arg4 : Memref sig .tc .vmem S1x256x64 .bf16) (harg4 : arg4.IsWhole) (arg5 : Memref sig .tc .vmem S1x1024x512 .fp8e4m3) (harg5 : arg5.IsWhole) (arg6 : Memref sig .tc .vmem S8x1024 .f32) (harg6 : arg6.IsWhole) (arg7 : Memref sig .tc .vmem S1x1024x64 .bf16) (harg7 : arg7.IsWhole) (arg8 : Memref sig .tc .vmem S1x4x512 .fp8e4m3) (harg8 : arg8.IsWhole) (arg9 : Memref sig .tc .vmem S8x128 .f32) (harg9 : arg9.IsWhole) (arg10 : Memref sig .tc .vmem S1x128x64 .bf16) (harg10 : arg10.IsWhole) (arg11 : Memref sig .tc .vmem S1x256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .f32) (harg14 : arg14.IsWhole) (hc0 : ¬cond0_0 i) (hc2 : cond0_2 i) (x0 : Vec F S1x256x512 .bf16) (x1 : Vec F S1x256x64 .bf16) (x2 : Vec F S1x1024x512 .fp8e4m3) (x3 : Vec F S8x1024 .f32) (x4 : Vec F S1x1024x64 .bf16) (x5 : Vec F S1x4x512 .fp8e4m3) (x6 : Vec F S8x128 .f32) (x7 : Vec F S1x128x64 .bf16) (xt0 : TbBuf0 (F := F) c tbM0_0) (xs0 : Vec F S256x128 .f32) (xs1 : Vec F S256x128 .f32) (xs2 : Vec F S256x512 .f32) (hc1 : ¬cond0_1 i (tbM0_0.view.readAt (Elt F) (Rect.unit (s := S8) (k0_off1 i) S1.size (k0_off1_inb i)).toLoadRect xt0 (Shape.Idx.first (numel1_S1.symm ▸ Nat.one_pos)))) :
    out0_F_8 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1 = outV xs1 xs2 := by
  unfold out0_F_8
  rw [View.read_writes_eq_canon _ _ _ (cover0_F_8 c i arg3 harg3 arg4 harg4 arg5 harg5 arg6 harg6 arg7 harg7 arg8 harg8 arg9 harg9 arg10 harg10 arg11 harg11 arg12 harg12 arg13 harg13 arg14 harg14 hc0 hc2 x0 x1 x2 x3 x4 x5 x6 x7 xt0 xs0 xs1 xs2 hc1)]
  unfold kernelRun0_F
  dsimp only
  sl_unfold_words
  rw [View.canon_unit_zero (S := S1x256x512) hz3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, rc128, rc512, rcCol, View.ld_unit_zero (S := S1x256x512) hz3, View.ld_unit_zero (S := S1x256x64) hz3, View.ld_unit_zero (S := S1x1024x512) hz3, View.ld_unit_zero (S := S1x1024x64) hz3, View.ld_unit_zero (S := S1x4x512) hz3, View.ld_unit_zero (S := S1x128x64) hz3, View.ld_unit_zero (S := S256x128) hz2, View.ld_unit_zero (S := S256x512) hz2, shapeCast_self]
  rfl

end Cert.KernelIdeal.Case
end
-- ==== Proof.Pay.lean ====
module

public import proofs.«01_k».proof.Proof.Case
public import proofs.«01_k».proof.Proof.Online
public import proofs.«01_k».proof.Proof.Words
public import Idealize.ShloMosaic.Lib.Pointwise

@[expose] public section

/-! # The payloads of one grid point, read at an index over the extended reals

`keyT` is the masked score tile of a block of the cache, `tokT` that of the new tokens. -/

set_option maxRecDepth 16384

noncomputable section

namespace Cert.KernelIdeal.Pay

open Cert.KernelIdeal Cert.KernelIdeal.Gen Cert.KernelIdeal.Case
open Idealize.ShloMosaic Idealize.ShloMosaic.TcCoe Idealize.ShloMosaic.Tactic

/-- The word of minus infinity. -/
theorem ninf : Ideal.ofBits .f32 4286578688#32 = (⊥ : EReal) := by simp [Ideal.ofBits, Ideal.ieee]

theorem zero_f32 : Ideal.ofBits .f32 0#32 = (0 : EReal) := by simp [Ideal.ofBits, Ideal.ieee]

theorem zero_fp8 : Ideal.ofBits .fp8e4m3 0#8 = (0 : EReal) := by simp [Ideal.ofBits, Ideal.e4m3fn]

/-- A maximum taken from minus infinity is the supremum. -/
theorem fold_sup {n : ℕ} (f : Fin n → EReal) :
    Finset.fold max (⊥ : EReal) f Finset.univ = Finset.univ.sup f := rfl

theorem named_kap : (Named.named (F := Ideal) κ "exp2_scale" (φ := .f32) 1037384597#32 : EReal) = ((Online.kap : ℝ) : EReal) := by
  exact IdealRules.named_const.ideal_named_scalar _ _ _ _ rfl

variable (i : grid0.Coords) (v : Elt Ideal .i32) (x0 : Vec Ideal S1x256x512 .bf16) (x1 : Vec Ideal S1x256x64 .bf16)
    (x2 : Vec Ideal S1x1024x512 .fp8e4m3) (x3 : Vec Ideal S8x1024 .f32) (x4 : Vec Ideal S1x1024x64 .bf16)
    (x5 : Vec Ideal S1x4x512 .fp8e4m3) (x6 : Vec Ideal S8x128 .f32) (x7 : Vec Ideal S1x128x64 .bf16)
    (xs0 xs1 : Vec Ideal S256x128 .f32) (xs2 : Vec Ideal S256x512 .f32)

/-- The masked scores of one block of the cache. -/
abbrev keyT : FVec Ideal S256x1024 .f32 := k0_pay21 (BitVec.ofNat 32 (i 1).val) v x2 (row i x3) x4 x0 x1

/-- The masked scores of the new tokens. -/
abbrev tokT : FVec Ideal S256x128 .f32 :=
  k0_pay15 (iota .tc S256x128 32 [0] iota_S256x128_d0_w32) (iota .tc S256x128 32 [1] iota_S256x128_d1_w32)
    (k0_pay10 x5) (k0_pay11 (nrow i x6)) (k0_pay12 x7) 64#32 k0_pay13 k0_pay14 1#32 0#1 x0 x1

theorem blkM_at (r : Fin 256) (k : Fin 128) :
    blkM i v x0 x1 x2 x3 x4 xs0 (ix2 r k)
      = max (xs0 (ix2 r k)) (Finset.univ.sup fun x => keyT i v x0 x1 x2 x3 x4 (ix2 r x)) := by
  unfold blkM
  pointwise [k0_pay3, k0_pay22]
  rw [ninf, fold_sup]

theorem blkL_at (r : Fin 256) (k : Fin 128) :
    blkL i v x0 x1 x2 x3 x4 xs0 xs1 (ix2 r k)
      = Ideal.exp2 ((xs0 (ix2 r k) - blkM i v x0 x1 x2 x3 x4 xs0 (ix2 r k)) * ((Online.kap : ℝ) : EReal)) * xs1 (ix2 r k)
        + ∑ x, Ideal.exp2 ((keyT i v x0 x1 x2 x3 x4 (ix2 r x) - blkM i v x0 x1 x2 x3 x4 xs0 (ix2 r 0))
            * ((Online.kap : ℝ) : EReal)) := by
  unfold blkL blkM
  pointwise [k0_pay4, k0_pay23, k0_pay24, k0_pay3]
  simp only [named_kap]
  rfl

theorem blkA_at (r : Fin 256) (k : Fin 512) :
    blkA i v x0 x1 x2 x3 x4 xs0 xs2 (ix2 r k)
      = xs2 (ix2 r k)
          * Ideal.exp2 ((xs0 (ix2 r 0) - blkM i v x0 x1 x2 x3 x4 xs0 (ix2 r 0)) * ((Online.kap : ℝ) : EReal))
        + ∑ x, Ideal.exp2 ((keyT i v x0 x1 x2 x3 x4 (ix2 r x) - blkM i v x0 x1 x2 x3 x4 xs0 (ix2 r 0))
            * ((Online.kap : ℝ) : EReal)) * row i x3 (ix2 0 x) * x2 (ix3 0 x k) := by
  unfold blkA blkM
  pointwise [k0_pay5, k0_pay20, k0_pay23, k0_pay24, k0_pay3]
  simp only [named_kap]
  rfl

theorem tokM_at (r : Fin 256) (k : Fin 128) :
    tokM i x0 x1 x5 x6 x7 (ix2 r k) = Finset.univ.sup fun x => tokT i x0 x1 x5 x6 x7 (ix2 r x) := by
  unfold tokM
  pointwise [k0_pay19, k0_pay16, k0_pay7]
  simp only [ninf, fold_sup, bot_le, max_eq_right]

theorem tokL_at (r : Fin 256) (k : Fin 128) :
    tokL i x0 x1 x5 x6 x7 (ix2 r k)
      = Ideal.exp2 (((⊥ : EReal) - tokM i x0 x1 x5 x6 x7 (ix2 r k)) * ((Online.kap : ℝ) : EReal)) * 0
        + ∑ x, Ideal.exp2 ((tokT i x0 x1 x5 x6 x7 (ix2 r x) - tokM i x0 x1 x5 x6 x7 (ix2 r 0))
            * ((Online.kap : ℝ) : EReal)) := by
  unfold tokL tokM
  pointwise [k0_pay1, k0_pay17, k0_pay18, k0_pay19, k0_pay7, k0_pay8]
  simp only [named_kap, ninf, zero_f32]
  rfl

theorem pay10_at (r : Fin 128) (k : Fin 512) :
    k0_pay10 x5 (ix2 r k) = if h : r.val < 4 then x5 (ix3 0 ⟨r.val, h⟩ k) else (0 : EReal) := by
  pointwise [k0_pay10]
  rw [zero_fp8]

theorem tokA_pay (r : Fin 256) (k : Fin 512) :
    tokA i x0 x1 x5 x6 x7 (ix2 r k)
      = 0 * Ideal.exp2 (((⊥ : EReal) - tokM i x0 x1 x5 x6 x7 (ix2 r 0)) * ((Online.kap : ℝ) : EReal))
        + ∑ x, Ideal.exp2 ((tokT i x0 x1 x5 x6 x7 (ix2 r x) - tokM i x0 x1 x5 x6 x7 (ix2 r 0))
            * ((Online.kap : ℝ) : EReal)) * nrow i x6 (ix2 0 x) * k0_pay10 x5 (ix2 x k) := by
  unfold tokA tokM tokT
  generalize k0_pay10 x5 = v30
  pointwise [k0_pay2, k0_pay17, k0_pay18, k0_pay19, k0_pay7, k0_pay9, k0_pay11]
  simp only [named_kap, ninf, zero_f32]
  rfl

theorem tokA_at (r : Fin 256) (k : Fin 512) :
    tokA i x0 x1 x5 x6 x7 (ix2 r k)
      = 0 * Ideal.exp2 (((⊥ : EReal) - tokM i x0 x1 x5 x6 x7 (ix2 r 0)) * ((Online.kap : ℝ) : EReal))
        + ∑ x, Ideal.exp2 ((tokT i x0 x1 x5 x6 x7 (ix2 r x) - tokM i x0 x1 x5 x6 x7 (ix2 r 0))
            * ((Online.kap : ℝ) : EReal)) * nrow i x6 (ix2 0 x)
            * (if h : x.val < 4 then x5 (ix3 0 ⟨x.val, h⟩ k) else 0) := by
  rw [tokA_pay]
  refine congrArg _ (Finset.sum_congr rfl fun x _ => ?_)
  rw [pay10_at]

theorem outV_at (r : Fin 256) (k : Fin 512) :
    outV xs1 xs2 (ix3 0 r k) = Ideal.div (xs2 (ix2 r k)) (xs1 (ix2 r 0)) := by
  unfold outV
  pointwise [k0_pay6]

/-- The batch of a point. -/
def bat (i : grid0.Coords) : Fin 8 := i 0

/-- The batch of a point as the offset of a row. -/
theorem batch_toNat : (Scalar.indexCast (BitVec.ofNat 32 (i 0).val)).toNat = (i 0).val := by
  have h : (i 0).val < 8 := (i 0).isLt
  show (BitVec.ofNat 32 (i 0).val).toNat = _
  rw [BitVec.toNat_ofNat]; omega

theorem row_at (k : Fin 1024) : row i x3 (ix2 0 k) = x3 (ix2 (bat i) k) := by
  unfold row
  pointwise []
  congr 2
  exact Fin.ext (batch_toNat i)

theorem nrow_at (k : Fin 128) : nrow i x6 (ix2 0 k) = x6 (ix2 (bat i) k) := by
  unfold nrow
  pointwise []
  congr 2
  exact Fin.ext (batch_toNat i)

/-- In a block whose first key lies below the length, the keys below the length are those that the mask keeps. -/
theorem mask_live {j k : ℕ} (hj : j < 128) (hk : k < 1024) {v : BitVec 32} (hl : (j : ℤ) * 1024 < v.toInt) :
    IntOp.cmpi .slt (BitVec.ofNat 32 k) (Scalar.subi v (Scalar.muli (BitVec.ofNat 32 j) 1024#32)) = 1#1
      ↔ ((j * 1024 + k : ℕ) : ℤ) < v.toInt := by
  have hv : v.toInt < 2147483648 := by have := BitVec.toInt_lt (x := v); simpa using this
  have e1 : (BitVec.ofNat 32 k).toInt = k := Words.toInt_small (n := 1024) (by decide) hk
  have e2 : (Scalar.muli (BitVec.ofNat 32 j) 1024#32) = BitVec.ofNat 32 (j * 1024) := by
    show BitVec.ofNat 32 j * BitVec.ofNat 32 1024 = _
    rw [← BitVec.ofNat_mul]
  have e3 : (BitVec.ofNat 32 (j * 1024)).toInt = ((j * 1024 : ℕ) : ℤ) :=
    Words.toInt_small (n := 131072) (by decide) (by omega)
  have e4 : (Scalar.subi v (Scalar.muli (BitVec.ofNat 32 j) 1024#32)).toInt = v.toInt - ((j * 1024 : ℕ) : ℤ) := by
    show (v - Scalar.muli (BitVec.ofNat 32 j) 1024#32).toInt = _
    rw [e2, BitVec.toInt_sub, e3]
    exact Int.bmod_eq_of_le (by omega) (by omega)
  have e5 : IntOp.cmpi .slt (BitVec.ofNat 32 k) (Scalar.subi v (Scalar.muli (BitVec.ofNat 32 j) 1024#32)) = 1#1
      ↔ (BitVec.ofNat 32 k).toInt < (Scalar.subi v (Scalar.muli (BitVec.ofNat 32 j) 1024#32)).toInt := by
    show BitVec.ofBool (BitVec.slt _ _) = 1#1 ↔ _
    rw [BitVec.slt_eq_decide]
    by_cases h : (BitVec.ofNat 32 k).toInt < (Scalar.subi v (Scalar.muli (BitVec.ofNat 32 j) 1024#32)).toInt
    · simp [h]
    · simp [h]
  rw [e5, e1, e4]
  push_cast
  omega

theorem key_at {j : ℕ} (hj : (i 1).val = j) (hl : (j : ℤ) * 1024 < BitVec.toInt v) (r : Fin 256) (k : Fin 1024) :
    keyT i v x0 x1 x2 x3 x4 (ix2 r k)
      = if ((j * 1024 + k.val : ℕ) : ℤ) < BitVec.toInt v then
          (∑ x, x0 (ix3 0 r x) * x2 (ix3 0 k x)) * x3 (ix2 (bat i) k) + ∑ x, x1 (ix3 0 r x) * x4 (ix3 0 k x)
        else (⊥ : EReal) := by
  have hj' : j < 128 := hj ▸ (i 1).isLt
  unfold keyT
  pointwise [k0_pay21, k0_pay20]
  rw [ninf, row_at, hj]
  unfold Scalar.select
  by_cases h : ((j * 1024 + k.val : ℕ) : ℤ) < BitVec.toInt v
  · rw [if_pos h]; exact if_pos ((mask_live hj' k.isLt hl).mpr h)
  · rw [if_neg h]; exact if_neg (fun e => h ((mask_live hj' k.isLt hl).mp e))

/-- The kernel's floored quotient of a row by 64 is the plain one. -/
theorem quot_word : ∀ r : Fin 256,
    Scalar.select
          (IntOp.andi
            (IntOp.cmpi CmpIPredicate.ne
              (IntOp.subi (BitVec.setWidth 32 (IntOp.cmpi CmpIPredicate.sgt (BitVec.ofNat 32 ↑r) 0#32))
                (BitVec.setWidth 32 (IntOp.cmpi CmpIPredicate.slt (BitVec.ofNat 32 ↑r) 0#32)))
              (Scalar.subi (1#32) (Scalar.extui 0#1)))
            (IntOp.cmpi CmpIPredicate.ne (IntOp.remsi ArithUnit.vector (BitVec.ofNat 32 ↑r) 64#32) 0#32))
          (IntOp.subi (IntOp.divsi ArithUnit.vector (BitVec.ofNat 32 ↑r) 64#32) 1#32)
          (IntOp.divsi ArithUnit.vector (BitVec.ofNat 32 ↑r) 64#32) = BitVec.ofNat 32 (r.val / 64) := by
  decide +kernel

/-- The new token of number `k` is kept for a row exactly when `k` is at most the row's own query. -/
theorem mask_tok (r : Fin 256) (k : Fin 128) :
    IntOp.cmpi CmpIPredicate.sle (BitVec.ofNat 32 ↑k)
        (Scalar.select
          (IntOp.andi
            (IntOp.cmpi CmpIPredicate.ne
              (IntOp.subi (BitVec.setWidth 32 (IntOp.cmpi CmpIPredicate.sgt (BitVec.ofNat 32 ↑r) 0#32))
                (BitVec.setWidth 32 (IntOp.cmpi CmpIPredicate.slt (BitVec.ofNat 32 ↑r) 0#32)))
              (Scalar.subi (1#32) (Scalar.extui 0#1)))
            (IntOp.cmpi CmpIPredicate.ne (IntOp.remsi ArithUnit.vector (BitVec.ofNat 32 ↑r) 64#32) 0#32))
          (IntOp.subi (IntOp.divsi ArithUnit.vector (BitVec.ofNat 32 ↑r) 64#32) 1#32)
          (IntOp.divsi ArithUnit.vector (BitVec.ofNat 32 ↑r) 64#32)) = 1#1
      ↔ k.val ≤ r.val / 64 := by
  rw [quot_word r]
  have e1 : (BitVec.ofNat 32 k.val).toInt = k.val := Words.toInt_small (n := 128) (by decide) k.isLt
  have e2 : (BitVec.ofNat 32 (r.val / 64)).toInt = ((r.val / 64 : ℕ) : ℤ) :=
    Words.toInt_small (n := 256) (by decide) (by omega)
  show BitVec.ofBool (BitVec.sle _ _) = 1#1 ↔ _
  rw [BitVec.sle_eq_decide, e1, e2]
  by_cases h : k.val ≤ r.val / 64
  · have h' : (k.val : ℤ) ≤ ((r.val / 64 : ℕ) : ℤ) := by exact_mod_cast h
    rw [decide_eq_true h']; simp [h]
  · have h' : ¬ (k.val : ℤ) ≤ ((r.val / 64 : ℕ) : ℤ) := by exact_mod_cast h
    rw [decide_eq_false h']; simp [h]

theorem tok_at (r : Fin 256) (k : Fin 128) :
    tokT i x0 x1 x5 x6 x7 (ix2 r k)
      = if k.val ≤ r.val / 64 then
          (∑ x, x0 (ix3 0 r x) * (if h : k.val < 4 then x5 (ix3 0 ⟨k.val, h⟩ x) else 0)) * x6 (ix2 (bat i) k)
            + ∑ x, x1 (ix3 0 r x) * x7 (ix3 0 k x)
        else (⊥ : EReal) := by
  unfold tokT
  pointwise [k0_pay15, k0_pay13, k0_pay14, k0_pay10, k0_pay11, k0_pay12]
  rw [ninf, nrow_at, zero_fp8]
  unfold Scalar.select
  by_cases h : k.val ≤ r.val / 64
  · rw [if_pos h]; exact if_pos ((mask_tok r k).mpr h)
  · rw [if_neg h]; exact if_neg (fun e => h ((mask_tok r k).mp e))

end Cert.KernelIdeal.Pay
end
-- ==== Proof.Step.lean ====
/- One grid point moves the running maximum, denominator and numerator one block of keys on. -/
module

public import proofs.«01_k».proof.Proof.Blocks
public import proofs.«01_k».proof.Proof.Pay
public import proofs.«01_k».proof.Proof.Spec

@[expose] public section

set_option maxRecDepth 16384

noncomputable section

namespace Cert.KernelIdeal.Step

open Idealize.ShloMosaic Idealize.ShloMosaic.TcCoe Idealize.SL.Sem Cert.KernelIdeal Cert.KernelIdeal.Gen Cert.Words Cert.Online Cert.Spec
open Cert.KernelIdeal.Blocks Cert.KernelIdeal.Case Cert.KernelIdeal.Pay

variable (m : (ℓ : Loc nD τ sig) → Buf (Elt Ideal) ℓ) (hO : Ok m) (c : Dev nD)

/-- The arguments' contents at launch. -/
def args : Args where
  x := m ((c : Thread nD τ).loc main_arg0)
  qr := m ((c : Thread nD τ).loc main_arg1)
  ck := m ((c : Thread nD τ).loc main_arg2)
  cs := m ((c : Thread nD τ).loc main_arg3)
  kr := m ((c : Thread nD τ).loc main_arg4)
  ln := m ((c : Thread nD τ).loc main_arg5)
  nk := m ((c : Thread nD τ).loc main_arg6)
  ns := m ((c : Thread nD τ).loc main_arg7)
  nr := m ((c : Thread nD τ).loc main_arg8)

/-- The blocks of the eight input windows at a grid point. -/
def X0 (t : Fin (cfgM m hO).N) : Vec Ideal S1x256x512 .bf16 := iblk m hO c 0 t
def X1 (t : Fin (cfgM m hO).N) : Vec Ideal S1x256x64 .bf16 := iblk m hO c 1 t
def X2 (t : Fin (cfgM m hO).N) : Vec Ideal S1x1024x512 .fp8e4m3 := iblk m hO c 2 t
def X3 (t : Fin (cfgM m hO).N) : Vec Ideal S8x1024 .f32 := iblk m hO c 3 t
def X4 (t : Fin (cfgM m hO).N) : Vec Ideal S1x1024x64 .bf16 := iblk m hO c 4 t
def X5 (t : Fin (cfgM m hO).N) : Vec Ideal S1x4x512 .fp8e4m3 := iblk m hO c 5 t
def X6 (t : Fin (cfgM m hO).N) : Vec Ideal S8x128 .f32 := iblk m hO c 6 t
def X7 (t : Fin (cfgM m hO).N) : Vec Ideal S1x128x64 .bf16 := iblk m hO c 7 t

/-- The scratch buffers hold the running maximum, denominator and numerator after `n` blocks of keys. -/
def St (a : Args) (b : Fin 8) (n : ℕ) (s0 s1 : Vec Ideal S256x128 .f32) (s2 : Vec Ideal S256x512 .f32) : Prop :=
  (∀ (r : Fin 256) (k : Fin 128), s0 (ix2 r k) = top (fN a b r) (fK a b r) n)
    ∧ (∀ (r : Fin 256) (k : Fin 128), s1 (ix2 r k) = (den a b r n : EReal))
    ∧ ∀ (r : Fin 256) (d : Fin 512), s2 (ix2 r d) = (num a b r d n : EReal)

/-- The word of the table at a grid point is the length of its batch. -/
theorem word_eq (t : Fin (cfgM m hO).N) : word (F := Ideal) (grid0.coords t) (tbl m 0) = (args m c).ln (ix1 (bt m hO t)) := by
  obtain rfl : c = 0 := Subsingleton.elim _ _
  unfold word tbl
  rw [show V m (0 : Dev nD) (pre0.ref 0) = m (((0 : Dev nD) : Thread nD τ).loc main_arg5) from V_main_arg5 m 0]
  show m (((0 : Dev nD) : Thread nD τ).loc main_arg5) _ = m (((0 : Dev nD) : Thread nD τ).loc main_arg5) _
  congr 1
  funext a
  obtain rfl : a = 0 := Subsingleton.elim _ _
  apply Fin.ext
  have h : (grid0.coords t 0).val < 8 := (grid0.coords t 0).isLt
  show (BitVec.ofNat 32 (grid0.coords t 0).val).toNat + 1 * 0 = (grid0.coords t 0).val
  simp [BitVec.toNat_ofNat]; omega

theorem key_eq (t : Fin (cfgM m hO).N) (j : Fin 128) (hj : (grid0.coords t 1).val = j.val) {v : BitVec 32}
    (hv : v = (args m c).ln (ix1 (bt m hO t))) (hl : (j.val : ℤ) * 1024 < v.toInt) (hp : pick m hO t = j.val) (r : Fin 256) (k : Fin 1024) :
    keyT (grid0.coords t) v (X0 m hO c t) (X1 m hO c t) (X2 m hO c t) (X3 m hO c t) (X4 m hO c t) (ix2 r k)
      = fK (args m c) (bt m hO t) r (j.val * 1024 + k.val) := by
  rw [key_at _ _ _ _ _ _ _ hj hl]
  unfold fK
  rw [dif_pos (show j.val * 1024 + k.val < 131072 by omega), ← hv]
  refine if_congr Iff.rfl ?_ rfl
  unfold key q rope
  refine congrArg₂ (· + ·) (congrArg₂ (· * ·) (Finset.sum_congr rfl fun x _ => ?_) ?_) (Finset.sum_congr rfl fun x _ => ?_)
  · exact congrArg₂ (· * ·) (b0 m hO c t r x) (b2 m hO c t j hp k x)
  · exact b3 m hO c t j hp _ k
  · exact congrArg₂ (· * ·) (b1 m hO c t r x) (b4 m hO c t j hp k x)

theorem tok_eq (t : Fin (cfgM m hO).N) (r : Fin 256) (k : Fin 128) :
    tokT (grid0.coords t) (X0 m hO c t) (X1 m hO c t) (X5 m hO c t) (X6 m hO c t) (X7 m hO c t) (ix2 r k)
      = fN (args m c) (bt m hO t) r k := by
  rw [tok_at]
  unfold fN
  by_cases h : k.val ≤ r.val / 64
  · have h4 : k.val < 4 := by omega
    rw [if_pos h, dif_pos h]
    unfold tok q rope
    refine congrArg₂ (· + ·) (congrArg₂ (· * ·) (Finset.sum_congr rfl fun x _ => ?_) ?_) (Finset.sum_congr rfl fun x _ => ?_)
    · refine congrArg₂ (· * ·) (b0 m hO c t r x) ?_
      rw [dif_pos h4]
      exact b5 m hO c t ⟨k.val, h4⟩ x
    · exact (b6 m hO c t _ k).trans (dif_pos h4)
    · exact congrArg₂ (· * ·) (b1 m hO c t r x) ((b7 m hO c t k x).trans (dif_pos h4))
  · rw [if_neg h, dif_neg h]

theorem scale_eq (t : Fin (cfgM m hO).N) (j : Fin 128) (hp : pick m hO t = j.val) (ha : (args m c).Real) (k : Fin 1024) :
    row (grid0.coords t) (X3 m hO c t) (ix2 0 k) = ((wK (args m c) (bt m hO t) (j.val * 1024 + k.val) : ℝ) : EReal) := by
  rw [row_at]
  unfold wK
  rw [dif_pos (show j.val * 1024 + k.val < 131072 by omega), coe_of (ha.cs _)]
  exact b3 m hO c t j hp _ k

theorem code_eq (t : Fin (cfgM m hO).N) (j : Fin 128) (hp : pick m hO t = j.val) (ha : (args m c).Real) (k : Fin 1024) (d : Fin 512) :
    X2 m hO c t (ix3 0 k d) = ((vK (args m c) (bt m hO t) d (j.val * 1024 + k.val) : ℝ) : EReal) := by
  unfold vK
  rw [dif_pos (show j.val * 1024 + k.val < 131072 by omega), coe_of (ha.ck _)]
  exact b2 m hO c t j hp k d

theorem nscale_eq (t : Fin (cfgM m hO).N) (ha : (args m c).Real) (k : Fin 128) :
    nrow (grid0.coords t) (X6 m hO c t) (ix2 0 k) = ((wN (args m c) (bt m hO t) k : ℝ) : EReal) := by
  rw [nrow_at]
  unfold wN
  refine (b6 m hO c t _ k).trans ?_
  by_cases h : k.val < 4
  · rw [dif_pos h, dif_pos h, coe_of (ha.ns _)]; rfl
  · rw [dif_neg h, dif_neg h]; rfl

theorem ncode_eq (t : Fin (cfgM m hO).N) (ha : (args m c).Real) (k : Fin 128) (d : Fin 512) :
    (if h : k.val < 4 then X5 m hO c t (ix3 0 ⟨k.val, h⟩ d) else (0 : EReal)) = ((vN (args m c) (bt m hO t) d k : ℝ) : EReal) := by
  unfold vN
  by_cases h : k.val < 4
  · rw [dif_pos h, dif_pos h, coe_of (ha.nk _)]
    exact b5 m hO c t ⟨k.val, h⟩ d
  · rw [dif_neg h, dif_neg h]; rfl

/-- The new tokens alone. -/
theorem st_tok (t : Fin (cfgM m hO).N) (ha : (args m c).Real) :
    St (args m c) (bt m hO t) 0
      (tokM (grid0.coords t) (X0 m hO c t) (X1 m hO c t) (X5 m hO c t) (X6 m hO c t) (X7 m hO c t))
      (tokL (grid0.coords t) (X0 m hO c t) (X1 m hO c t) (X5 m hO c t) (X6 m hO c t) (X7 m hO c t))
      (tokA (grid0.coords t) (X0 m hO c t) (X1 m hO c t) (X5 m hO c t) (X6 m hO c t) (X7 m hO c t)) := by
  have hM : ∀ (r : Fin 256) (k : Fin 128),
      tokM (grid0.coords t) (X0 m hO c t) (X1 m hO c t) (X5 m hO c t) (X6 m hO c t) (X7 m hO c t) (ix2 r k)
        = top (fN (args m c) (bt m hO t) r) (fK (args m c) (bt m hO t) r) 0 := fun r k => by
    rw [tokM_at]
    simp only [tok_eq]
    rfl
  refine ⟨hM, fun r k => ?_, fun r d => ?_⟩
  · rw [tokL_at]
    simp only [tok_eq, hM]
    exact den_zero (fN_ne_top ha _ r) (fN_zero ha _ r) (fK_ne_top ha _ r)
  · rw [tokA_at]
    simp only [tok_eq, hM, nscale_eq m hO c t ha, ncode_eq m hO c t ha]
    exact num_zero (fN_ne_top ha _ r) (fN_zero ha _ r) (fK_ne_top ha _ r) _ _ _

/-- A block of keys that the length reaches. -/
theorem st_live (t : Fin (cfgM m hO).N) (ha : (args m c).Real) (j : Fin 128) (hj : (grid0.coords t 1).val = j.val) {v : BitVec 32}
    (hv : v = (args m c).ln (ix1 (bt m hO t))) (hl : (j.val : ℤ) * 1024 < v.toInt) (hp : pick m hO t = j.val)
    {s0 s1 : Vec Ideal S256x128 .f32} {s2 : Vec Ideal S256x512 .f32} (hs : St (args m c) (bt m hO t) j.val s0 s1 s2) :
    St (args m c) (bt m hO t) (j.val + 1)
      (blkM (grid0.coords t) v (X0 m hO c t) (X1 m hO c t) (X2 m hO c t) (X3 m hO c t) (X4 m hO c t) s0)
      (blkL (grid0.coords t) v (X0 m hO c t) (X1 m hO c t) (X2 m hO c t) (X3 m hO c t) (X4 m hO c t) s0 s1)
      (blkA (grid0.coords t) v (X0 m hO c t) (X1 m hO c t) (X2 m hO c t) (X3 m hO c t) (X4 m hO c t) s0 s2) := by
  obtain ⟨h0, h1, h2⟩ := hs
  have hM : ∀ (r : Fin 256) (k : Fin 128),
      blkM (grid0.coords t) v (X0 m hO c t) (X1 m hO c t) (X2 m hO c t) (X3 m hO c t) (X4 m hO c t) s0 (ix2 r k)
        = top (fN (args m c) (bt m hO t) r) (fK (args m c) (bt m hO t) r) (j.val + 1) := fun r k => by
    rw [blkM_at]
    simp only [key_eq m hO c t j hj hv hl hp, h0]
    rfl
  refine ⟨hM, fun r k => ?_, fun r d => ?_⟩
  · rw [blkL_at]
    simp only [key_eq m hO c t j hj hv hl hp, h0, h1, hM]
    exact den_step (fN_ne_top ha _ r) (fN_zero ha _ r) (fK_ne_top ha _ r) j.val
  · rw [blkA_at]
    simp only [key_eq m hO c t j hj hv hl hp, h0, h2, hM, scale_eq m hO c t j hp ha, code_eq m hO c t j hp ha]
    exact num_step (fN_ne_top ha _ r) (fN_zero ha _ r) (fK_ne_top ha _ r) _ _ _ j.val

/-- A block of keys past the length. -/
theorem st_dead {a : Args} (ha : a.Real) {b : Fin 8} {j : ℕ} (hl : ¬(j : ℤ) * 1024 < (a.ln (ix1 b)).toInt)
    {s0 s1 : Vec Ideal S256x128 .f32} {s2 : Vec Ideal S256x512 .f32} (hs : St a b j s0 s1 s2) : St a b (j + 1) s0 s1 s2 := by
  have hd : ∀ (r : Fin 256) (k : Fin 1024), fK a b r (j * 1024 + k.val) = ⊥ := fun r k => by
    unfold fK
    split
    · exact if_neg (by push_cast; omega)
    · rfl
  refine ⟨fun r k => ?_, fun r k => ?_, fun r d => ?_⟩
  · rw [hs.1, top_dead _ (hd r)]
  · rw [hs.2.1]; unfold den; rw [acc_dead (fN_ne_top ha b r) (fN_zero ha b r) (fK_ne_top ha b r) _ _ _ (hd r)]
  · rw [hs.2.2]; unfold num; rw [acc_dead (fN_ne_top ha b r) (fN_zero ha b r) (fK_ne_top ha b r) _ _ _ (hd r)]

end Cert.KernelIdeal.Step

end
-- ==== Proof.State.lean ====
/- What the scratch buffers hold after each grid point, and the block that the last point of a batch writes. -/
module

public import proofs.«01_k».proof.Proof.Step
public import proofs.«01_k».proof.Proof.FrameIdeal

@[expose] public section

set_option maxRecDepth 16384

noncomputable section

namespace Cert.KernelIdeal.State

open Idealize.ShloMosaic Idealize.ShloMosaic.TcCoe Idealize.SL.Sem Cert.KernelIdeal Cert.KernelIdeal.Gen Cert.Words Cert.Online Cert.Spec
open Cert.KernelIdeal.Blocks Cert.KernelIdeal.Case Cert.KernelIdeal.Pay Cert.KernelIdeal.Step

variable (m : (ℓ : Loc nD τ sig) → Buf (Elt Ideal) ℓ) (hO : Ok m) (c : Dev nD)

/-- The condition under which a point takes its block of keys. -/
abbrev on (t : Fin (cfgM m hO).N) : Prop :=
  cond0_1 (grid0.coords t) (tbM0_0.view.readAt (Elt Ideal) (Rect.unit (s := S8) (k0_off1 (grid0.coords t)) S1.size (k0_off1_inb (grid0.coords t))).toLoadRect (tbl m 0) (Shape.Idx.first (numel1_S1.symm ▸ Nat.one_pos)))

theorem lt_N (t : Fin (cfgM m hO).N) : t.val < 1024 := Nat.lt_of_lt_of_eq t.isLt N_0

theorem coords_val0 (t : Fin grid0.N) : (grid0.coords t 0).val = t.val / 128 % 8 := Pipeline.Grid.coords_val t 0 (by decide) rfl
theorem coords_val1 (t : Fin grid0.N) : (grid0.coords t 1).val = t.val / 1 % 128 := Pipeline.Grid.coords_val t 1 (by decide) rfl

theorem coord0 (t : Fin (cfgM m hO).N) : (bt m hO t).val = t.val / 128 := by
  have h : (grid0.coords t 0).val = t.val / 128 % 8 := coords_val0 t
  have := lt_N m hO t
  show (grid0.coords t 0).val = _
  omega

theorem coord1 (t : Fin (cfgM m hO).N) : (grid0.coords t 1).val = t.val % 128 := by
  have h : (grid0.coords t 1).val = t.val / 1 % 128 := coords_val1 t
  omega

/-- The block of keys of a point. -/
def blkOf (t : Fin (cfgM m hO).N) : Fin 128 := ⟨t.val % 128, Nat.mod_lt _ (by decide)⟩

theorem on_iff (t : Fin (cfgM m hO).N) :
    on m hO t ↔ live (BitVec.ofNat 32 (grid0.coords t 1).val) (word (F := Ideal) (grid0.coords t) (tbl m 0)) := Iff.rfl

theorem on_len (t : Fin (cfgM m hO).N) (hv : ((args m c).ln (ix1 (bt m hO t))).toInt ≤ 2147482624) :
    on m hO t ↔ ((blkOf m hO t).val : ℤ) * 1024 < ((args m c).ln (ix1 (bt m hO t))).toInt := by
  rw [on_iff, coord1, word_eq m hO c t, live_iff (Nat.mod_lt _ (by decide)) hv]
  rfl

theorem pick_on (t : Fin (cfgM m hO).N) (h : on m hO t) : pick m hO t = (blkOf m hO t).val := by
  rw [on_iff, coord1] at h
  have := clamp_live (Nat.mod_lt _ (by decide)) h
  unfold pick
  rw [coord1]
  exact this

theorem St.congr {a : Args} {b : Fin 8} {n : ℕ} {s0 s1 s0' s1' : Vec Ideal S256x128 .f32} {s2 s2' : Vec Ideal S256x512 .f32}
    (e0 : s0' = s0) (e1 : s1' = s1) (e2 : s2' = s2) (h : St a b n s0 s1 s2) : St a b n s0' s1' s2' := by
  rw [e0, e1, e2]; exact h

/-! The scratch buffers after the first point of a batch, its block taken. -/
theorem caseA_0 (t : Fin (cfgM m hO).N) (h0 : t.val % 128 = 0) (h1 : on m hO t) (h2 : ¬t.val % 128 = 127) :
    (outsAt0 m hO c t.val t.isLt).2.1 = (blkM (grid0.coords t) (word (F := Ideal) (grid0.coords t) (tbl m 0)) (X0 m hO c t) (X1 m hO c t) (X2 m hO c t) (X3 m hO c t) (X4 m hO c t) (tokM (grid0.coords t) (X0 m hO c t) (X1 m hO c t) (X5 m hO c t) (X6 m hO c t) (X7 m hO c t))) :=
  by
  rw [outsAt0_A m hO c t h0 h1 h2]
  dsimp only
  exact sout0_A_0_eq ..

theorem caseA_1 (t : Fin (cfgM m hO).N) (h0 : t.val % 128 = 0) (h1 : on m hO t) (h2 : ¬t.val % 128 = 127) :
    (outsAt0 m hO c t.val t.isLt).2.2.1 = (blkL (grid0.coords t) (word (F := Ideal) (grid0.coords t) (tbl m 0)) (X0 m hO c t) (X1 m hO c t) (X2 m hO c t) (X3 m hO c t) (X4 m hO c t) (tokM (grid0.coords t) (X0 m hO c t) (X1 m hO c t) (X5 m hO c t) (X6 m hO c t) (X7 m hO c t)) (tokL (grid0.coords t) (X0 m hO c t) (X1 m hO c t) (X5 m hO c t) (X6 m hO c t) (X7 m hO c t))) :=
  by
  rw [outsAt0_A m hO c t h0 h1 h2]
  dsimp only
  exact sout0_A_1_eq ..

theorem caseA_2 (t : Fin (cfgM m hO).N) (h0 : t.val % 128 = 0) (h1 : on m hO t) (h2 : ¬t.val % 128 = 127) :
    (outsAt0 m hO c t.val t.isLt).2.2.2 = (blkA (grid0.coords t) (word (F := Ideal) (grid0.coords t) (tbl m 0)) (X0 m hO c t) (X1 m hO c t) (X2 m hO c t) (X3 m hO c t) (X4 m hO c t) (tokM (grid0.coords t) (X0 m hO c t) (X1 m hO c t) (X5 m hO c t) (X6 m hO c t) (X7 m hO c t)) (tokA (grid0.coords t) (X0 m hO c t) (X1 m hO c t) (X5 m hO c t) (X6 m hO c t) (X7 m hO c t))) :=
  by
  rw [outsAt0_A m hO c t h0 h1 h2]
  dsimp only
  exact sout0_A_2_eq ..

/-! The scratch buffers after the first point, its block past the length. -/
theorem caseB_0 (t : Fin (cfgM m hO).N) (h0 : t.val % 128 = 0) (h1 : ¬on m hO t) (h2 : ¬t.val % 128 = 127) :
    (outsAt0 m hO c t.val t.isLt).2.1 = (tokM (grid0.coords t) (X0 m hO c t) (X1 m hO c t) (X5 m hO c t) (X6 m hO c t) (X7 m hO c t)) :=
  by
  rw [outsAt0_B m hO c t h0 h1 h2]
  dsimp only
  exact sout0_B_0_eq ..

theorem caseB_1 (t : Fin (cfgM m hO).N) (h0 : t.val % 128 = 0) (h1 : ¬on m hO t) (h2 : ¬t.val % 128 = 127) :
    (outsAt0 m hO c t.val t.isLt).2.2.1 = (tokL (grid0.coords t) (X0 m hO c t) (X1 m hO c t) (X5 m hO c t) (X6 m hO c t) (X7 m hO c t)) :=
  by
  rw [outsAt0_B m hO c t h0 h1 h2]
  dsimp only
  exact sout0_B_1_eq ..

theorem caseB_2 (t : Fin (cfgM m hO).N) (h0 : t.val % 128 = 0) (h1 : ¬on m hO t) (h2 : ¬t.val % 128 = 127) :
    (outsAt0 m hO c t.val t.isLt).2.2.2 = (tokA (grid0.coords t) (X0 m hO c t) (X1 m hO c t) (X5 m hO c t) (X6 m hO c t) (X7 m hO c t)) :=
  by
  rw [outsAt0_B m hO c t h0 h1 h2]
  dsimp only
  exact sout0_B_2_eq ..

/-! The scratch buffers after a point within a batch, its block taken. -/
theorem caseC_0 (t : Fin (cfgM m hO).N) (h0 : ¬t.val % 128 = 0) (h1 : on m hO t) (h2 : ¬t.val % 128 = 127) :
    (outsAt0 m hO c t.val t.isLt).2.1 = (blkM (grid0.coords t) (word (F := Ideal) (grid0.coords t) (tbl m 0)) (X0 m hO c t) (X1 m hO c t) (X2 m hO c t) (X3 m hO c t) (X4 m hO c t) (outsAt0 m hO c (t.val - 1) (Nat.lt_of_le_of_lt (Nat.sub_le _ _) t.isLt)).2.1) :=
  by
  rw [outsAt0_C m hO c t h0 h1 h2]
  dsimp only
  exact sout0_C_0_eq ..

theorem caseC_1 (t : Fin (cfgM m hO).N) (h0 : ¬t.val % 128 = 0) (h1 : on m hO t) (h2 : ¬t.val % 128 = 127) :
    (outsAt0 m hO c t.val t.isLt).2.2.1 = (blkL (grid0.coords t) (word (F := Ideal) (grid0.coords t) (tbl m 0)) (X0 m hO c t) (X1 m hO c t) (X2 m hO c t) (X3 m hO c t) (X4 m hO c t) (outsAt0 m hO c (t.val - 1) (Nat.lt_of_le_of_lt (Nat.sub_le _ _) t.isLt)).2.1 (outsAt0 m hO c (t.val - 1) (Nat.lt_of_le_of_lt (Nat.sub_le _ _) t.isLt)).2.2.1) :=
  by
  rw [outsAt0_C m hO c t h0 h1 h2]
  dsimp only
  exact sout0_C_1_eq ..

theorem caseC_2 (t : Fin (cfgM m hO).N) (h0 : ¬t.val % 128 = 0) (h1 : on m hO t) (h2 : ¬t.val % 128 = 127) :
    (outsAt0 m hO c t.val t.isLt).2.2.2 = (blkA (grid0.coords t) (word (F := Ideal) (grid0.coords t) (tbl m 0)) (X0 m hO c t) (X1 m hO c t) (X2 m hO c t) (X3 m hO c t) (X4 m hO c t) (outsAt0 m hO c (t.val - 1) (Nat.lt_of_le_of_lt (Nat.sub_le _ _) t.isLt)).2.1 (outsAt0 m hO c (t.val - 1) (Nat.lt_of_le_of_lt (Nat.sub_le _ _) t.isLt)).2.2.2) :=
  by
  rw [outsAt0_C m hO c t h0 h1 h2]
  dsimp only
  exact sout0_C_2_eq ..

/-! The scratch buffers after a point within a batch, its block past the length. -/
theorem caseD_0 (t : Fin (cfgM m hO).N) (h0 : ¬t.val % 128 = 0) (h1 : ¬on m hO t) (h2 : ¬t.val % 128 = 127) :
    (outsAt0 m hO c t.val t.isLt).2.1 = (outsAt0 m hO c (t.val - 1) (Nat.lt_of_le_of_lt (Nat.sub_le _ _) t.isLt)).2.1 :=
  congrArg (fun z => z.2.1) (outsAt0_D m hO c t h0 h1 h2)

theorem caseD_1 (t : Fin (cfgM m hO).N) (h0 : ¬t.val % 128 = 0) (h1 : ¬on m hO t) (h2 : ¬t.val % 128 = 127) :
    (outsAt0 m hO c t.val t.isLt).2.2.1 = (outsAt0 m hO c (t.val - 1) (Nat.lt_of_le_of_lt (Nat.sub_le _ _) t.isLt)).2.2.1 :=
  congrArg (fun z => z.2.2.1) (outsAt0_D m hO c t h0 h1 h2)

theorem caseD_2 (t : Fin (cfgM m hO).N) (h0 : ¬t.val % 128 = 0) (h1 : ¬on m hO t) (h2 : ¬t.val % 128 = 127) :
    (outsAt0 m hO c t.val t.isLt).2.2.2 = (outsAt0 m hO c (t.val - 1) (Nat.lt_of_le_of_lt (Nat.sub_le _ _) t.isLt)).2.2.2 :=
  congrArg (fun z => z.2.2.2) (outsAt0_D m hO c t h0 h1 h2)

/-! The scratch buffers after the last point, its block taken. -/
theorem caseE_0 (t : Fin (cfgM m hO).N) (h0 : ¬t.val % 128 = 0) (h1 : on m hO t) (h2 : t.val % 128 = 127) :
    (outsAt0 m hO c t.val t.isLt).2.1 = (blkM (grid0.coords t) (word (F := Ideal) (grid0.coords t) (tbl m 0)) (X0 m hO c t) (X1 m hO c t) (X2 m hO c t) (X3 m hO c t) (X4 m hO c t) (outsAt0 m hO c (t.val - 1) (Nat.lt_of_le_of_lt (Nat.sub_le _ _) t.isLt)).2.1) :=
  by
  rw [outsAt0_E m hO c t h0 h1 h2]
  dsimp only
  exact sout0_E_0_eq ..

theorem caseE_1 (t : Fin (cfgM m hO).N) (h0 : ¬t.val % 128 = 0) (h1 : on m hO t) (h2 : t.val % 128 = 127) :
    (outsAt0 m hO c t.val t.isLt).2.2.1 = (blkL (grid0.coords t) (word (F := Ideal) (grid0.coords t) (tbl m 0)) (X0 m hO c t) (X1 m hO c t) (X2 m hO c t) (X3 m hO c t) (X4 m hO c t) (outsAt0 m hO c (t.val - 1) (Nat.lt_of_le_of_lt (Nat.sub_le _ _) t.isLt)).2.1 (outsAt0 m hO c (t.val - 1) (Nat.lt_of_le_of_lt (Nat.sub_le _ _) t.isLt)).2.2.1) :=
  by
  rw [outsAt0_E m hO c t h0 h1 h2]
  dsimp only
  exact sout0_E_1_eq ..

theorem caseE_2 (t : Fin (cfgM m hO).N) (h0 : ¬t.val % 128 = 0) (h1 : on m hO t) (h2 : t.val % 128 = 127) :
    (outsAt0 m hO c t.val t.isLt).2.2.2 = (blkA (grid0.coords t) (word (F := Ideal) (grid0.coords t) (tbl m 0)) (X0 m hO c t) (X1 m hO c t) (X2 m hO c t) (X3 m hO c t) (X4 m hO c t) (outsAt0 m hO c (t.val - 1) (Nat.lt_of_le_of_lt (Nat.sub_le _ _) t.isLt)).2.1 (outsAt0 m hO c (t.val - 1) (Nat.lt_of_le_of_lt (Nat.sub_le _ _) t.isLt)).2.2.2) :=
  by
  rw [outsAt0_E m hO c t h0 h1 h2]
  dsimp only
  exact sout0_E_2_eq ..

/-! The scratch buffers after the last point, its block past the length. -/
theorem caseF_0 (t : Fin (cfgM m hO).N) (h0 : ¬t.val % 128 = 0) (h1 : ¬on m hO t) (h2 : t.val % 128 = 127) :
    (outsAt0 m hO c t.val t.isLt).2.1 = (outsAt0 m hO c (t.val - 1) (Nat.lt_of_le_of_lt (Nat.sub_le _ _) t.isLt)).2.1 :=
  congrArg (fun z => z.2.1) (outsAt0_F m hO c t h0 h1 h2)

theorem caseF_1 (t : Fin (cfgM m hO).N) (h0 : ¬t.val % 128 = 0) (h1 : ¬on m hO t) (h2 : t.val % 128 = 127) :
    (outsAt0 m hO c t.val t.isLt).2.2.1 = (outsAt0 m hO c (t.val - 1) (Nat.lt_of_le_of_lt (Nat.sub_le _ _) t.isLt)).2.2.1 :=
  congrArg (fun z => z.2.2.1) (outsAt0_F m hO c t h0 h1 h2)

theorem caseF_2 (t : Fin (cfgM m hO).N) (h0 : ¬t.val % 128 = 0) (h1 : ¬on m hO t) (h2 : t.val % 128 = 127) :
    (outsAt0 m hO c t.val t.isLt).2.2.2 = (outsAt0 m hO c (t.val - 1) (Nat.lt_of_le_of_lt (Nat.sub_le _ _) t.isLt)).2.2.2 :=
  congrArg (fun z => z.2.2.2) (outsAt0_F m hO c t h0 h1 h2)

theorem outE (t : Fin (cfgM m hO).N) (h0 : ¬t.val % 128 = 0) (h1 : on m hO t) (h2 : t.val % 128 = 127) :
    (outsAt0 m hO c t.val t.isLt).1 = outV (outsAt0 m hO c t.val t.isLt).2.2.1 (outsAt0 m hO c t.val t.isLt).2.2.2 := by
  rw [caseE_1 m hO c t h0 h1 h2, caseE_2 m hO c t h0 h1 h2, outsAt0_E m hO c t h0 h1 h2]
  dsimp only
  exact out0_E_8_eq ..

theorem outF (t : Fin (cfgM m hO).N) (h0 : ¬t.val % 128 = 0) (h1 : ¬on m hO t) (h2 : t.val % 128 = 127) :
    (outsAt0 m hO c t.val t.isLt).1 = outV (outsAt0 m hO c t.val t.isLt).2.2.1 (outsAt0 m hO c t.val t.isLt).2.2.2 := by
  rw [caseF_1 m hO c t h0 h1 h2, caseF_2 m hO c t h0 h1 h2, outsAt0_F m hO c t h0 h1 h2]
  dsimp only
  exact out0_F_8_eq ..

variable (ha : (args m c).Real) (hv : ∀ b, ((args m c).ln (ix1 b)).toInt ≤ 2147482624)
include ha hv

/-- After each point the scratch buffers hold the running maximum, denominator and numerator over the keys so far. -/
theorem state : ∀ (n : ℕ) (h : n < (cfgM m hO).N),
    St (args m c) (bt m hO ⟨n, h⟩) (n % 128 + 1) (outsAt0 m hO c n h).2.1 (outsAt0 m hO c n h).2.2.1 (outsAt0 m hO c n h).2.2.2 := by
  intro n
  induction n using Nat.strong_induction_on with
  | _ n ih =>
    intro h
    obtain ⟨t, ht⟩ : ∃ t : Fin (cfgM m hO).N, t = ⟨n, h⟩ := ⟨_, rfl⟩
    have hn : t.val = n := by rw [ht]
    subst hn
    have hj : (grid0.coords t 1).val = (blkOf m hO t).val := coord1 m hO t
    have hw : word (F := Ideal) (grid0.coords t) (tbl m 0) = (args m c).ln (ix1 (bt m hO t)) := word_eq m hO c t
    have hi := on_len m hO c t (hv _)
    have live' : on m hO t → ∀ {s0 s1 : Vec Ideal S256x128 .f32} {s2 : Vec Ideal S256x512 .f32},
        St (args m c) (bt m hO t) (t.val % 128) s0 s1 s2 →
        St (args m c) (bt m hO t) (t.val % 128 + 1)
          (blkM (grid0.coords t) (word (F := Ideal) (grid0.coords t) (tbl m 0)) (X0 m hO c t) (X1 m hO c t) (X2 m hO c t) (X3 m hO c t) (X4 m hO c t) s0)
          (blkL (grid0.coords t) (word (F := Ideal) (grid0.coords t) (tbl m 0)) (X0 m hO c t) (X1 m hO c t) (X2 m hO c t) (X3 m hO c t) (X4 m hO c t) s0 s1)
          (blkA (grid0.coords t) (word (F := Ideal) (grid0.coords t) (tbl m 0)) (X0 m hO c t) (X1 m hO c t) (X2 m hO c t) (X3 m hO c t) (X4 m hO c t) s0 s2) := by
      intro hon s0 s1 s2 hs
      have hl := hi.mp hon
      rw [← hw] at hl
      exact st_live m hO c t ha (blkOf m hO t) hj hw hl (pick_on m hO t hon) hs
    have dead' : ¬on m hO t → ∀ {s0 s1 : Vec Ideal S256x128 .f32} {s2 : Vec Ideal S256x512 .f32},
        St (args m c) (bt m hO t) (t.val % 128) s0 s1 s2 → St (args m c) (bt m hO t) (t.val % 128 + 1) s0 s1 s2 :=
      fun hoff s0 s1 s2 hs => st_dead ha (fun hl => hoff (hi.mpr hl)) hs
    by_cases h0 : t.val % 128 = 0
    · have h2 : ¬t.val % 128 = 127 := by omega
      have hs := st_tok m hO c t ha
      rw [← h0] at hs
      by_cases hon : on m hO t
      · exact St.congr (caseA_0 m hO c t h0 hon h2) (caseA_1 m hO c t h0 hon h2) (caseA_2 m hO c t h0 hon h2) (live' hon hs)
      · exact St.congr (caseB_0 m hO c t h0 hon h2) (caseB_1 m hO c t h0 hon h2) (caseB_2 m hO c t h0 hon h2) (dead' hon hs)
    · have hp : t.val - 1 < (cfgM m hO).N := Nat.lt_of_le_of_lt (Nat.sub_le _ _) t.isLt
      have hs := ih (t.val - 1) (by omega) hp
      have hb : bt m hO ⟨t.val - 1, hp⟩ = bt m hO t := by
        apply Fin.ext
        rw [coord0, coord0]
        show (t.val - 1) / 128 = t.val / 128
        omega
      rw [hb, show (t.val - 1) % 128 + 1 = t.val % 128 by omega] at hs
      by_cases hon : on m hO t
      · by_cases h2 : t.val % 128 = 127
        · exact St.congr (caseE_0 m hO c t h0 hon h2) (caseE_1 m hO c t h0 hon h2) (caseE_2 m hO c t h0 hon h2) (live' hon hs)
        · exact St.congr (caseC_0 m hO c t h0 hon h2) (caseC_1 m hO c t h0 hon h2) (caseC_2 m hO c t h0 hon h2) (live' hon hs)
      · by_cases h2 : t.val % 128 = 127
        · exact St.congr (caseF_0 m hO c t h0 hon h2) (caseF_1 m hO c t h0 hon h2) (caseF_2 m hO c t h0 hon h2) (dead' hon hs)
        · exact St.congr (caseD_0 m hO c t h0 hon h2) (caseD_1 m hO c t h0 hon h2) (caseD_2 m hO c t h0 hon h2) (dead' hon hs)

/-- The block that the last point of a batch writes. -/
theorem out_at (t : Fin (cfgM m hO).N) (h2 : t.val % 128 = 127) (r : Fin 256) (d : Fin 512) :
    (outsAt0 m hO c t.val t.isLt).1 (ix3 0 r d)
      = ((num (args m c) (bt m hO t) r d 128 / den (args m c) (bt m hO t) r 128 : ℝ) : EReal) := by
  have h0 : ¬t.val % 128 = 0 := by omega
  have hs := state m hO c ha hv t.val t.isLt
  rw [show t.val % 128 + 1 = 128 by omega] at hs
  have ho : (outsAt0 m hO c t.val t.isLt).1 = outV (outsAt0 m hO c t.val t.isLt).2.2.1 (outsAt0 m hO c t.val t.isLt).2.2.2 := by
    by_cases hon : on m hO t
    · exact outE m hO c t h0 hon h2
    · exact outF m hO c t h0 hon h2
  rw [ho, outV_at, hs.2.2, hs.2.1]
  exact quot ha _ r d

end Cert.KernelIdeal.State

end
-- ==== Proof.Final.lean ====
/- The kernel's result array after the run. -/
module

public import proofs.«01_k».proof.Proof.State

@[expose] public section

set_option maxRecDepth 16384

noncomputable section

namespace Cert.KernelIdeal.Final

open Idealize.ShloMosaic Idealize.ShloMosaic.TcCoe Idealize.SL.Sem Cert.KernelIdeal Cert.KernelIdeal.Gen Cert.Words Cert.Online Cert.Spec
open Cert.KernelIdeal.Blocks Cert.KernelIdeal.Step Cert.KernelIdeal.State

variable (m : (ℓ : Loc nD τ sig) → Buf (Elt Ideal) ℓ) (hO : Ok m) (c : Dev nD)

/-- The attention's result on the arguments: at batch, row and column, numerator over denominator. -/
def result (a : Args) : (⟨3, ![8, 256, 512]⟩ : Shape).Idx → EReal :=
  fun i => ((num a (i 0) (i 1) (i 2) 128 / den a (i 0) (i 1) 128 : ℝ) : EReal)

theorem idx8 (t : Fin (cfgM m hO).N) : ((cfgM m hO).win 8).index t = ![(bt m hO t).val, 0, 0] := by
  rw [← bt_word]; rfl

/-- An index lies in the block of its own batch. -/
theorem in_block (i : S8x256x512.Idx) (f : Fin 3 → ℕ) (hf : f = ![(i 0).val, 0, 0]) (a : Fin 3) :
    f a * (![1, 256, 512] : Fin 3 → ℕ) a ≤ (i a : ℕ) ∧ (i a : ℕ) < f a * (![1, 256, 512] : Fin 3 → ℕ) a + (![1, 256, 512] : Fin 3 → ℕ) a := by
  subst hf
  have h1 : (i 1 : Nat) < 256 := (i 1).isLt
  have h2 : (i 2 : Nat) < 512 := (i 2).isLt
  match a with
  | ⟨0, _⟩ => show (i 0 : Nat) * 1 ≤ (i 0 : Nat) ∧ (i 0 : Nat) < (i 0 : Nat) * 1 + 1; omega
  | ⟨1, _⟩ => show 0 * 256 ≤ (i 1 : Nat) ∧ (i 1 : Nat) < 0 * 256 + 256; omega
  | ⟨2, _⟩ => show 0 * 512 ≤ (i 2 : Nat) ∧ (i 2 : Nat) < 0 * 512 + 512; omega

variable (ha : (args m c).Real) (hv : ∀ b, ((args m c).ln (ix1 b)).toInt ≤ 2147482624)
include ha hv

theorem after_at (t : Fin (cfgM m hO).N) (h2 : t.val % 128 = 127) (r : Fin 256) (d : Fin 512) :
    ((dats m hO 0 c).after 8 t : Vec Ideal S1x256x512 .bf16) (ix3 0 r d) = result (args m c) (ix3 (bt m hO t) r d) := by
  rw [after0_8]
  exact out_at m hO c ha hv t h2 r d

theorem flushed_eq (t : Fin (cfgM m hO).N) (hf : ((cfgM m hO).win 8).flush t = true) :
    (dats m hO 0 c).flushed 8 t
      = (((cfgM m hO).win 8).blk t).view.read (Elt Ideal) (result (args m c) : Buf (Elt Ideal) ((c : Thread nD τ).loc main_v6)) := by
  have h2 : t.val % 128 = 127 := (flush0_8 (adm m hO) t).mp hf
  have hi := idx8 m hO t
  have key : ∀ y : S1x256x512.Idx, ((dats m hO 0 c).after 8 t : Vec Ideal S1x256x512 .bf16) y
      = result (args m c) (((cfgM m hO).win 8).blk t |>.view.emb y) := by
    intro y
    have hy : y = ix3 0 (y 1) (y 2) := by
      funext a
      match a with
      | ⟨0, _⟩ => exact Subsingleton.elim (α := Fin 1) _ _
      | ⟨1, _⟩ => rfl
      | ⟨2, _⟩ => rfl
    rw [hy]
    refine (after_at m hO c ha hv t h2 (y 1) (y 2)).trans ?_
    blk_ext [hi]
  funext y
  exact key y

theorem covered (i : S8x256x512.Idx) : ∃ t : Fin (cfgM m hO).N, ((cfgM m hO).win 8).flush t = true ∧ i ∈ (((cfgM m hO).win 8).blk t).view.set := by
  have hN : (cfgM m hO).N = 1024 := N_0
  have h0 : (i 0 : Nat) < 8 := (i 0).isLt
  have h1 : (i 1 : Nat) < 256 := (i 1).isLt
  have h2 : (i 2 : Nat) < 512 := (i 2).isLt
  let t : Fin (cfgM m hO).N := ⟨(i 0).val * 128 + 127, by omega⟩
  have hi := idx8 m hO t
  have hb : (bt m hO t).val = (i 0 : Nat) := by
    rw [coord0]; show ((i 0).val * 128 + 127) / 128 = _; omega
  rw [hb] at hi
  refine ⟨t, (flush0_8 (adm m hO) t).mpr (by show ((i 0).val * 128 + 127) % 128 = 127; omega), ?_⟩
  show i ∈ ((View.whole main_v6).slice (((cfgM m hO).win 8).rect t)).set
  refine (congrArg (fun s : Finset S8x256x512.Idx => i ∈ s) (View.set_slice_whole main_v6 _)).mpr (Rect.mem_set_unit.mpr ?_)
  exact in_block i _ hi

theorem final : (dats m hO 0 c).arrAt 8 (cfgM m hO).N = (result (args m c) : Buf (Elt Ideal) ((c : Thread nD τ).loc main_v6)) :=
  (dats m hO 0 c).arrAt_eq_of_cover 8 _ (flushed_eq m hO c ha hv) (covered m hO c ha hv)

end Cert.KernelIdeal.Final

namespace Cert.KernelIdeal.Final

open Idealize.ShloMosaic Idealize.ShloMosaic.TcCoe Idealize.SL.Sem Cert.KernelIdeal Cert.KernelIdeal.Gen Cert.Words Cert.Online Cert.Spec
open Cert.KernelIdeal.Blocks Cert.KernelIdeal.Step Cert.KernelIdeal.State

/-- The run: the result array holds the attention's result, and the arguments are unchanged. -/
theorem run (m : (ℓ : Loc nD τ sig) → Buf (Elt Ideal) ℓ) (hO : Ok m) (ρ : Dev nD → PrngReg) (ha : ∀ c, (args m c).Real)
    (hv : ∀ c b, ((args m c).ln (ix1 b)).toInt ≤ 2147482624) :
    θ_run defs (onTc (τ := τ) (main (F := Ideal))) ⟨m, fun _ => 0, ρ⟩ fun r => ∀ c : Dev nD,
      r.2.mem ((c.tc : Thread nD τ).loc main_v6) = (result (args m c) : Buf (Elt Ideal) ((c.tc : Thread nD τ).loc main_v6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h.1 c).1 8).trans (final m hO c (ha c) (hv c)), h.2 c⟩)
    (θ_run_and (run_main m ρ hO) (unchanged m ρ hO))

end Cert.KernelIdeal.Final

end
-- ==== Proof.RefRead.lean ====
/- The reference's operations read at an index: the masked scores, their maximum, the denominator, and the result. -/
module

public import proofs.«01_k».proof.Proof.Gen.ReferenceIdeal.Read
public import proofs.«01_k».proof.Proof.Spec
public import proofs.«01_k».proof.Proof.Words

@[expose] public section

set_option maxRecDepth 16384
set_option backward.proofsInPublic true

noncomputable section

namespace Cert.ReferenceIdeal.RefRead

open Idealize.ShloMosaic Cert.ReferenceIdeal Cert.ReferenceIdeal.Read Cert.Words Cert.Online Cert.Spec

theorem slt_pick (x y : BitVec 32) (u v : EReal) : Scalar.select (IntOp.cmpi .slt x y) u v = if x.toInt < y.toInt then u else v := by
  by_cases h : x.toInt < y.toInt <;> simp [Scalar.select, IntOp.cmpi, BitVec.slt, h]

theorem sle_pick (x y : BitVec 32) (u v : EReal) : Scalar.select (IntOp.cmpi .sle x y) u v = if x.toInt ≤ y.toInt then u else v := by
  by_cases h : x.toInt ≤ y.toInt <;> simp [Scalar.select, IntOp.cmpi, BitVec.sle, h]

theorem ninf : (FloatOps.ofBits (F := Ideal) .f32 0xFF800000#32 : EReal) = ⊥ := by
  show Ideal.ofBits .f32 0xFF800000#32 = ⊥
  simp [Ideal.ofBits, Ideal.ieee]

theorem zero : (FloatOps.ofBits (F := Ideal) .f32 0x00000000#32 : EReal) = 0 := by
  show Ideal.ofBits .f32 0x00000000#32 = 0
  simp [Ideal.ofBits, Ideal.ieee]

theorem scale (i : S_.Idx) : (val_main_v5 (F := Ideal) i : EReal) = (Online.sig : EReal) := by
  rw [val_main_v5_apply, val_main_cst_0_apply, val_main_v4_apply, val_main_cst_apply]
  have h1 : (FloatOps.ofBits (F := Ideal) .f32 0x3F800000#32 : EReal) = 1 := by
    show Ideal.ofBits .f32 0x3F800000#32 = 1
    simp [Ideal.ofBits, Ideal.ieee]
    rw [← EReal.coe_mul]
    norm_num
  have h2 : (FloatOps.ofBits (F := Ideal) .f32 0x43400000#32 : EReal) = ((192 : ℝ) : EReal) := by
    show Ideal.ofBits .f32 0x43400000#32 = _
    simp [Ideal.ofBits, Ideal.ieee]
    rw [← EReal.coe_mul]
    norm_num
  rw [h1, h2]
  have h3 : (FloatOps.hostUnary (F := Ideal) .sqrt (φ := .f32) ((192 : ℝ) : EReal) : EReal) = ((Real.sqrt 192 : ℝ) : EReal) := by
    rw [Ideal.hostUnary_sqrt_def]
    show (if (192 : ℝ) < 0 then (⊥ : EReal) else ((Real.sqrt 192 : ℝ) : EReal)) = _
    rw [if_neg (by norm_num)]
  rw [h3]
  show Ideal.div _ _ = _
  rw [Ideal.div_coe (Real.sqrt_pos.mpr (by norm_num)).ne', one_mul, one_div]
  rfl

theorem bot_sig : (⊥ : EReal) * (Online.sig : EReal) = ⊥ := EReal.bot_mul_coe_of_pos Online.sig_pos

variable (a : Args) (e0 : (⟨S8x4x64x512, .bf16⟩ : BufTy).Contents (Elt Ideal))
    (he : ∀ (b : Fin 8) (s : Fin 4) (h : Fin 64) (k : Fin 512), e0 (ix4 b s h k) = a.x (ix3 b s (⟨h.val * 512 + k.val, by omega⟩ : Fin 32768)))

/-- The token and the head of a row. -/
def s (r : Fin 256) : Fin 4 := ⟨r.val / 64, by omega⟩
def hd (r : Fin 256) : Fin 64 := ⟨r.val % 64, by omega⟩

include he

theorem v31_at (b : Fin 8) (r : Fin 256) (p : Fin 131072) :
    (val_main_v31 (F := Ideal) a.qr a.cs a.kr a.ln a.ck e0 (ix4 b (s r) (hd r) p) : EReal) = fK a b r p.val * (Online.sig : EReal) := by
  rw [val_main_v31_apply, val_main_call0_v1_apply, val_main_v30_apply, val_main_v29_apply, val_main_v27_apply, val_main_v25_apply,
    val_main_v24_apply, val_main_v28_apply, val_main_v26_apply, slt_pick, val_main_call0_v2_apply, val_main_call0_v0_apply,
    val_main_cst_1_apply, ninf, val_main_v15_apply, val_main_v14_apply, val_main_v13_apply, scale, val_main_v12_apply,
    val_main_v10_apply, val_main_v9_apply, val_main_v6_apply, val_main_v8_apply, val_main_v11_apply]
  unfold fK
  rw [dif_pos p.isLt]
  have e1 : ∀ k, e0 (lidx_main_v8 (ix4 b (s r) (hd r) p) k) = q a b r k := fun k => by
    refine Eq.trans (congrArg e0 ?_) (he b (s r) (hd r) k)
    funext z; match z with | ⟨0, _⟩ => rfl | ⟨1, _⟩ => rfl | ⟨2, _⟩ => rfl | ⟨3, _⟩ => rfl
  have e2 : ∀ k, ridx_main_v8 (ix4 b (s r) (hd r) p) k = ix3 b p k := fun k => by
    funext z; match z with | ⟨0, _⟩ => rfl | ⟨1, _⟩ => rfl | ⟨2, _⟩ => rfl
  have e3 : ∀ k, lidx_main_v11 (ix4 b (s r) (hd r) p) k = ix4 b (s r) (hd r) k := fun k => by
    funext z; match z with | ⟨0, _⟩ => rfl | ⟨1, _⟩ => rfl | ⟨2, _⟩ => rfl | ⟨3, _⟩ => rfl
  have e4 : ∀ k, ridx_main_v11 (ix4 b (s r) (hd r) p) k = ix3 b p k := fun k => by
    funext z; match z with | ⟨0, _⟩ => rfl | ⟨1, _⟩ => rfl | ⟨2, _⟩ => rfl
  have e5 : idx_main_v6 (idx_main_v9 (ix4 b (s r) (hd r) p)) = ix2 b p := by
    funext z; match z with | ⟨0, _⟩ => rfl | ⟨1, _⟩ => rfl
  rw [e5]
  simp only [e1, e2, e3, e4]
  have e6 : idx_main_v26 (idx_main_v28 (idx_main_v30 (idx_main_call0_v1 (ix4 b (s r) (hd r) p)))) = ix1 b := by
    funext z; match z with | ⟨0, _⟩ => rfl
  have e7 : (BitVec.ofNat 32 ((idx_main_v25 (idx_main_v27 (idx_main_v30 (idx_main_call0_v1 (ix4 b (s r) (hd r) p))))) 0).val).toInt = (p.val : ℤ) :=
    toInt_small (k := p.val) (n := 131072) (by norm_num) p.isLt
  rw [e6, e7]
  by_cases hl : (p.val : ℤ) < (a.ln (ix1 b)).toInt
  · rw [if_pos hl, if_pos hl]; rfl
  · rw [if_neg hl, if_neg hl, bot_sig]

theorem v40_at (b : Fin 8) (r : Fin 256) (t : Fin 4) :
    (val_main_v40 (F := Ideal) a.qr a.ns a.nr a.nk e0 (ix4 b (s r) (hd r) t) : EReal) = fN a b r ⟨t.val, by omega⟩ * (Online.sig : EReal) := by
  rw [val_main_v40_apply, val_main_call1_v1_apply, val_main_v39_apply, val_main_v38_apply, val_main_v36_apply, val_main_v33_apply,
    val_main_v32_apply, val_main_v37_apply, val_main_v35_apply, val_main_v34_apply, sle_pick, val_main_call1_v2_apply, val_main_call1_v0_apply,
    val_main_cst_2_apply, ninf, val_main_v23_apply, val_main_v22_apply, val_main_v21_apply, scale, val_main_v20_apply,
    val_main_v18_apply, val_main_v17_apply, val_main_v7_apply, val_main_v16_apply, val_main_v19_apply]
  unfold fN
  have e1 : ∀ k, e0 (lidx_main_v16 (ix4 b (s r) (hd r) t) k) = q a b r k := fun k => by
    refine Eq.trans (congrArg e0 ?_) (he b (s r) (hd r) k)
    funext z; match z with | ⟨0, _⟩ => rfl | ⟨1, _⟩ => rfl | ⟨2, _⟩ => rfl | ⟨3, _⟩ => rfl
  have e2 : ∀ k, ridx_main_v16 (ix4 b (s r) (hd r) t) k = ix3 b t k := fun k => by
    funext z; match z with | ⟨0, _⟩ => rfl | ⟨1, _⟩ => rfl | ⟨2, _⟩ => rfl
  have e3 : ∀ k, lidx_main_v19 (ix4 b (s r) (hd r) t) k = ix4 b (s r) (hd r) k := fun k => by
    funext z; match z with | ⟨0, _⟩ => rfl | ⟨1, _⟩ => rfl | ⟨2, _⟩ => rfl | ⟨3, _⟩ => rfl
  have e4 : ∀ k, ridx_main_v19 (ix4 b (s r) (hd r) t) k = ix3 b t k := fun k => by
    funext z; match z with | ⟨0, _⟩ => rfl | ⟨1, _⟩ => rfl | ⟨2, _⟩ => rfl
  have e5 : idx_main_v7 (idx_main_v17 (ix4 b (s r) (hd r) t)) = ix2 b t := by
    funext z; match z with | ⟨0, _⟩ => rfl | ⟨1, _⟩ => rfl
  rw [e5]
  simp only [e1, e2, e3, e4]
  have e6 : (BitVec.ofNat 32 ((idx_main_v33 (idx_main_v36 (idx_main_v39 (idx_main_call1_v1 (ix4 b (s r) (hd r) t))))) 0).val).toInt = (t.val : ℤ) :=
    toInt_small (k := t.val) (n := 4) (by norm_num) t.isLt
  have e7 : (BitVec.ofNat 32 ((idx_main_v35 (idx_main_v37 (idx_main_v39 (idx_main_call1_v1 (ix4 b (s r) (hd r) t))))) 0).val).toInt = ((r.val / 64 : ℕ) : ℤ) :=
    toInt_small (k := r.val / 64) (n := 4) (by norm_num) (by omega)
  rw [e6, e7]
  by_cases hl : t.val ≤ r.val / 64
  · rw [if_pos (by exact_mod_cast hl), dif_pos hl]; rfl
  · rw [if_neg (by exact_mod_cast hl), dif_neg hl, bot_sig]

theorem v41_at (b : Fin 8) (r : Fin 256) :
    (val_main_v41 (F := Ideal) a.qr a.cs a.kr a.ln a.ck e0 (ix3 b (s r) (hd r)) : EReal)
      = Finset.univ.sup fun p : Fin 131072 => fK a b r p.val * (Online.sig : EReal) := by
  unfold val_main_v41
  rw [Host.reduce_eq_fold_single _ _ _ Gen.reducesTo_S8x4x64x131072_S8x4x64_d3 (by decide)]
  rw [val_main_cst_3_apply, ninf]
  show Finset.fold max (⊥ : EReal) _ Finset.univ = _
  refine Eq.trans (Finset.fold_congr (g := fun p : Fin 131072 => fK a b r p.val * (Online.sig : EReal)) fun p _ => ?_) rfl
  refine Eq.trans (congrArg (val_main_v31 (F := Ideal) a.qr a.cs a.kr a.ln a.ck e0) ?_) (v31_at a e0 he b r p)
  funext z; apply Fin.ext; match z with | ⟨0, _⟩ => rfl | ⟨1, _⟩ => rfl | ⟨2, _⟩ => rfl | ⟨3, _⟩ => rfl

theorem v43_at (b : Fin 8) (r : Fin 256) :
    (val_main_v43 (F := Ideal) a.qr a.ns a.nr a.nk e0 (ix3 b (s r) (hd r)) : EReal)
      = Finset.univ.sup fun t : Fin 4 => fN a b r ⟨t.val, by omega⟩ * (Online.sig : EReal) := by
  unfold val_main_v43
  rw [Host.reduce_eq_fold_single _ _ _ Gen.reducesTo_S8x4x64x4_S8x4x64_d3 (by decide)]
  rw [val_main_cst_4_apply, ninf]
  show Finset.fold max (⊥ : EReal) _ Finset.univ = _
  refine Eq.trans (Finset.fold_congr (g := fun t : Fin 4 => fN a b r ⟨t.val, by omega⟩ * (Online.sig : EReal)) fun p _ => ?_) rfl
  refine Eq.trans (congrArg (val_main_v40 (F := Ideal) a.qr a.ns a.nr a.nk e0) ?_) (v40_at a e0 he b r p)
  funext z; apply Fin.ext; match z with | ⟨0, _⟩ => rfl | ⟨1, _⟩ => rfl | ⟨2, _⟩ => rfl | ⟨3, _⟩ => rfl

variable (ha : a.Real)
include ha

/-- The largest score of a row, times the scale. -/
theorem v45_at (b : Fin 8) (r : Fin 256) :
    (val_main_v45 (F := Ideal) a.qr a.cs a.kr a.ln a.ns a.nr a.ck a.nk e0 (ix4 b (s r) (hd r) (0 : Fin 1)) : EReal)
      = ((top (fN a b r) (fK a b r) 128).toReal : EReal) * (Online.sig : EReal) := by
  rw [val_main_v45_apply, val_main_v42_apply, val_main_v44_apply]
  have e1 : idx_main_v42 (ix4 b (s r) (hd r) (0 : Fin 1)) = ix3 b (s r) (hd r) := by
    funext z; match z with | ⟨0, _⟩ => rfl | ⟨1, _⟩ => rfl | ⟨2, _⟩ => rfl
  have e2 : idx_main_v44 (ix4 b (s r) (hd r) (0 : Fin 1)) = ix3 b (s r) (hd r) := by
    funext z; match z with | ⟨0, _⟩ => rfl | ⟨1, _⟩ => rfl | ⟨2, _⟩ => rfl
  rw [e1, e2, v41_at a e0 he, v43_at a e0 he]
  exact max_ref ha b r

theorem v48_at (b : Fin 8) (r : Fin 256) (p : Fin 131072) :
    (val_main_v48 (F := Ideal) a.qr a.cs a.kr a.ln a.ns a.nr a.ck a.nk e0 (ix4 b (s r) (hd r) p) : EReal)
      = Ideal.exp (fK a b r p.val * (Online.sig : EReal) - ((top (fN a b r) (fK a b r) 128).toReal : EReal) * (Online.sig : EReal)) := by
  rw [val_main_v48_apply, val_main_v47_apply, v31_at a e0 he, val_main_v46_apply]
  have e1 : idx_main_v46 (ix4 b (s r) (hd r) p) = ix4 b (s r) (hd r) (0 : Fin 1) := by
    funext z; match z with | ⟨0, _⟩ => rfl | ⟨1, _⟩ => rfl | ⟨2, _⟩ => rfl | ⟨3, _⟩ => rfl
  rw [e1, v45_at a e0 he ha]
  rfl

theorem v51_at (b : Fin 8) (r : Fin 256) (t : Fin 4) :
    (val_main_v51 (F := Ideal) a.qr a.cs a.kr a.ln a.ns a.nr a.ck a.nk e0 (ix4 b (s r) (hd r) t) : EReal)
      = Ideal.exp (fN a b r ⟨t.val, by omega⟩ * (Online.sig : EReal) - ((top (fN a b r) (fK a b r) 128).toReal : EReal) * (Online.sig : EReal)) := by
  rw [val_main_v51_apply, val_main_v50_apply, v40_at a e0 he, val_main_v49_apply]
  have e1 : idx_main_v49 (ix4 b (s r) (hd r) t) = ix4 b (s r) (hd r) (0 : Fin 1) := by
    funext z; match z with | ⟨0, _⟩ => rfl | ⟨1, _⟩ => rfl | ⟨2, _⟩ => rfl | ⟨3, _⟩ => rfl
  rw [e1, v45_at a e0 he ha]
  rfl

/-- The denominator. -/
theorem v56_at (b : Fin 8) (r : Fin 256) :
    (val_main_v56 (F := Ideal) a.qr a.cs a.kr a.ln a.ns a.nr a.ck a.nk e0 (ix4 b (s r) (hd r) (0 : Fin 1)) : EReal) = (den a b r 128 : EReal) := by
  rw [val_main_v56_apply, val_main_v53_apply, val_main_v55_apply, val_main_v52_apply, val_main_v54_apply, val_main_cst_5_apply,
    val_main_cst_6_apply, zero, zero_add, zero_add]
  have e1 : ∀ p : Fin 131072, idx_main_v52 (idx_main_v53 (ix4 b (s r) (hd r) (0 : Fin 1))) p = ix4 b (s r) (hd r) p := fun p => by
    funext z; match z with | ⟨0, _⟩ => rfl | ⟨1, _⟩ => rfl | ⟨2, _⟩ => rfl | ⟨3, _⟩ => rfl
  have e2 : ∀ t : Fin 4, idx_main_v54 (idx_main_v55 (ix4 b (s r) (hd r) (0 : Fin 1))) t = ix4 b (s r) (hd r) t := fun t => by
    funext z; match z with | ⟨0, _⟩ => rfl | ⟨1, _⟩ => rfl | ⟨2, _⟩ => rfl | ⟨3, _⟩ => rfl
  simp only [e1, e2, v48_at a e0 he ha, v51_at a e0 he ha]
  exact den_ref ha b r rfl

theorem v61_at (b : Fin 8) (r : Fin 256) (p : Fin 131072) :
    (val_main_v61 (F := Ideal) a.qr a.cs a.kr a.ln a.ns a.nr a.ck a.nk e0 (ix4 b (s r) (hd r) p) : EReal)
      = Ideal.div (Ideal.exp (fK a b r p.val * (Online.sig : EReal) - ((top (fN a b r) (fK a b r) 128).toReal : EReal) * (Online.sig : EReal)))
          (den a b r 128 : EReal) * a.cs (ix2 b p) := by
  rw [val_main_v61_apply, val_main_v60_apply, val_main_v58_apply, val_main_v57_apply, val_main_v59_apply, val_main_v6_apply, v48_at a e0 he ha]
  have e1 : idx_main_v57 (ix4 b (s r) (hd r) p) = ix4 b (s r) (hd r) (0 : Fin 1) := by
    funext z; match z with | ⟨0, _⟩ => rfl | ⟨1, _⟩ => rfl | ⟨2, _⟩ => rfl | ⟨3, _⟩ => rfl
  have e2 : idx_main_v6 (idx_main_v59 (ix4 b (s r) (hd r) p)) = ix2 b p := by
    funext z; match z with | ⟨0, _⟩ => rfl | ⟨1, _⟩ => rfl
  rw [e1, e2, v56_at a e0 he ha]
  rfl

theorem v66_at (b : Fin 8) (r : Fin 256) (t : Fin 4) :
    (val_main_v66 (F := Ideal) a.qr a.cs a.kr a.ln a.ns a.nr a.ck a.nk e0 (ix4 b (s r) (hd r) t) : EReal)
      = Ideal.div (Ideal.exp (fN a b r ⟨t.val, by omega⟩ * (Online.sig : EReal) - ((top (fN a b r) (fK a b r) 128).toReal : EReal) * (Online.sig : EReal)))
          (den a b r 128 : EReal) * a.ns (ix2 b t) := by
  rw [val_main_v66_apply, val_main_v65_apply, val_main_v63_apply, val_main_v62_apply, val_main_v64_apply, val_main_v7_apply, v51_at a e0 he ha]
  have e1 : idx_main_v62 (ix4 b (s r) (hd r) t) = ix4 b (s r) (hd r) (0 : Fin 1) := by
    funext z; match z with | ⟨0, _⟩ => rfl | ⟨1, _⟩ => rfl | ⟨2, _⟩ => rfl | ⟨3, _⟩ => rfl
  have e2 : idx_main_v7 (idx_main_v64 (ix4 b (s r) (hd r) t)) = ix2 b t := by
    funext z; match z with | ⟨0, _⟩ => rfl | ⟨1, _⟩ => rfl
  rw [e1, e2, v56_at a e0 he ha]
  rfl

/-- The reference's result at an index. -/
theorem v71_at (b : Fin 8) (r : Fin 256) (d : Fin 512) :
    (val_main_v71 (F := Ideal) a.qr a.cs a.kr a.ln a.ns a.nr a.ck a.nk e0 (ix3 b r d) : EReal) = ((num a b r d 128 / den a b r 128 : ℝ) : EReal) := by
  rw [val_main_v71_apply]
  have e0' : idx_main_v71 (ix3 b r d) = ix4 b (s r) (hd r) d := by
    funext z
    apply Fin.ext
    have hb := b.isLt; have hr := r.isLt; have hd' := d.isLt
    match z with
    | ⟨0, _⟩ => show ((b.val * 256 + r.val) * 512 + d.val) / 131072 = b.val; omega
    | ⟨1, _⟩ => show ((b.val * 256 + r.val) * 512 + d.val) / 32768 % 4 = r.val / 64; omega
    | ⟨2, _⟩ => show ((b.val * 256 + r.val) * 512 + d.val) / 512 % 64 = r.val % 64; omega
    | ⟨3, _⟩ => show ((b.val * 256 + r.val) * 512 + d.val) % 512 = d.val; omega
  rw [e0', val_main_v70_apply, val_main_v69_apply, val_main_v67_apply, val_main_v68_apply]
  have e1 : ∀ p : Fin 131072, lidx_main_v67 (ix4 b (s r) (hd r) d) p = ix4 b (s r) (hd r) p := fun p => by
    funext z; match z with | ⟨0, _⟩ => rfl | ⟨1, _⟩ => rfl | ⟨2, _⟩ => rfl | ⟨3, _⟩ => rfl
  have e2 : ∀ p : Fin 131072, ridx_main_v67 (ix4 b (s r) (hd r) d) p = ix3 b p d := fun p => by
    funext z; match z with | ⟨0, _⟩ => rfl | ⟨1, _⟩ => rfl | ⟨2, _⟩ => rfl
  have e3 : ∀ t : Fin 4, lidx_main_v68 (ix4 b (s r) (hd r) d) t = ix4 b (s r) (hd r) t := fun t => by
    funext z; match z with | ⟨0, _⟩ => rfl | ⟨1, _⟩ => rfl | ⟨2, _⟩ => rfl | ⟨3, _⟩ => rfl
  have e4 : ∀ t : Fin 4, ridx_main_v68 (ix4 b (s r) (hd r) d) t = ix3 b t d := fun t => by
    funext z; match z with | ⟨0, _⟩ => rfl | ⟨1, _⟩ => rfl | ⟨2, _⟩ => rfl
  simp only [e1, e2, e3, e4, v61_at a e0 he ha, v66_at a e0 he ha]
  exact out_ref ha b r d rfl rfl

end Cert.ReferenceIdeal.RefRead

end
-- ==== Proof.RefRegion.lean ====
/- What the reference's call leaves in its two results: the codes, whose casts are the identity on the extended reals. -/
module

public import proofs.«01_k».proof.Proof.RefRead
public import Idealize.ShloMosaic.Lib.Pipeline.ValueKit.Point
public import Idealize.ShloMosaic.Lib.Pointwise

@[expose] public section

set_option maxRecDepth 16384

noncomputable section

namespace Cert.ReferenceIdeal.RefRegion

open Idealize.ShloMosaic Idealize.ShloMosaic.TcCoe Idealize.SL.Sem Cert.ReferenceIdeal Cert.ReferenceIdeal.Gen Cert.Spec

variable (m : (ℓ : Loc nD τ sig) → Buf (Elt Ideal) ℓ) (c : Dev nD)

theorem V_v1 : (V m c main_v1 : S8x131072x512.Idx → EReal) = m ((c : Thread nD τ).loc main_arg2) := rfl
theorem V_v2 : (V m c main_v2 : S8x4x512.Idx → EReal) = m ((c : Thread nD τ).loc main_arg6) := rfl

theorem reg0 : (dats m 0 c).arrAt 2 cfg0.N = (m ((c : Thread nD τ).loc main_arg2) : S8x131072x512.Idx → EReal) := by
  refine (dats m 0 c).arrAt_eq_of_covers 2 _ (by decide +kernel) fun t hf y => ?_
  blk_simp
  rw [after0_2]
  frame_out
  pointwise [k0_pay1]
  rfl

theorem reg1 : (dats m 0 c).arrAt 3 cfg0.N = (m ((c : Thread nD τ).loc main_arg6) : S8x4x512.Idx → EReal) := by
  refine (dats m 0 c).arrAt_eq_of_covers 3 _ (by decide +kernel) fun t hf y => ?_
  blk_simp
  rw [after0_3]
  frame_out
  pointwise [k0_pay2]
  rfl

end Cert.ReferenceIdeal.RefRegion

end
-- ==== Proof.RefFinal.lean ====
/- The reference's run: its result array holds the attention's result. -/
module

public import proofs.«01_k».proof.Proof.RefRegion
public import proofs.«01_k».proof.Proof.Gen.ReferenceIdeal.Run

@[expose] public section

set_option maxRecDepth 16384
set_option backward.proofsInPublic true

noncomputable section

namespace Cert.ReferenceIdeal.RefFinal

open Idealize.ShloMosaic Idealize.ShloMosaic.TcCoe Idealize.SL.Sem Cert.ReferenceIdeal Cert.ReferenceIdeal.Read Cert.ReferenceIdeal.RefRead
open Cert.Spec

variable (m : (ℓ : Loc nD τ sig) → Buf (Elt Ideal) ℓ) (c : Dev nD)

/-- The reference's arguments. -/
def args : Args where
  x := m ((c : Thread nD τ).loc main_arg0)
  qr := m ((c : Thread nD τ).loc main_arg1)
  ck := m ((c : Thread nD τ).loc main_arg2)
  cs := m ((c : Thread nD τ).loc main_arg3)
  kr := m ((c : Thread nD τ).loc main_arg4)
  ln := m ((c : Thread nD τ).loc main_arg5)
  nk := m ((c : Thread nD τ).loc main_arg6)
  ns := m ((c : Thread nD τ).loc main_arg7)
  nr := m ((c : Thread nD τ).loc main_arg8)

/-- The queries by head. -/
def heads : (⟨S8x4x64x512, .bf16⟩ : BufTy).Contents (Elt Ideal) :=
  shapeCast S8x4x64x512 (m ((c : Thread nD τ).loc main_arg0) : Vec Ideal S8x4x32768 .bf16) Gen.shapeCasts_S8x4x32768_S8x4x64x512

theorem flat {α : Type} (v : S8x4x32768.Idx → α) (g : S8x4x32768.ShapeCasts S8x4x64x512) (b : Fin 8) (s : Fin 4) (h : Fin 64) (k : Fin 512) :
    shapeCast S8x4x64x512 v g (ix4 b s h k) = v (ix3 b s (⟨h.val * 512 + k.val, by omega⟩ : Fin 32768)) := by
  refine shapeCast_apply v g _ _ ?_
  rw [Shape.rowMajor_val_three, Shape.rowMajor_val_four]
  show (b.val * 4 + s.val) * 32768 + (h.val * 512 + k.val) = ((b.val * 4 + s.val) * 64 + h.val) * 512 + k.val
  omega

theorem heads_at (b : Fin 8) (s : Fin 4) (h : Fin 64) (k : Fin 512) :
    heads m c (ix4 b s h k) = (args m c).x (ix3 b s (⟨h.val * 512 + k.val, by omega⟩ : Fin 32768)) :=
  flat (m ((c : Thread nD τ).loc main_arg0) : Vec Ideal S8x4x32768 .bf16) _ b s h k

theorem out_eq (ha : (args m c).Real) :
    val_main_v71 (F := Ideal) (args m c).qr (args m c).cs (args m c).kr (args m c).ln (args m c).ns (args m c).nr (args m c).ck (args m c).nk (heads m c)
      = fun i => ((num (args m c) (i 0) (i 1) (i 2) 128 / den (args m c) (i 0) (i 1) 128 : ℝ) : EReal) := by
  funext i
  have hi : i = ix3 (i 0) (i 1) (i 2) := by
    funext z; match z with | ⟨0, _⟩ => rfl | ⟨1, _⟩ => rfl | ⟨2, _⟩ => rfl
  exact (congrArg _ hi).trans (v71_at (args m c) (heads m c) (heads_at m c) ha (i 0) (i 1) (i 2))

theorem run (ρ : Dev nD → PrngReg) (ha : ∀ c, (args m c).Real) :
    θ_run defs (onTc (τ := τ) (main (F := Ideal))) ⟨m, fun _ => 0, ρ⟩ fun r => ∀ c : Dev nD,
      r.2.mem ((c.tc : Thread nD τ).loc main_v71)
        = ((fun i => ((num (args m c) (i 0) (i 1) (i 2) 128 / den (args m c) (i 0) (i 1) 128 : ℝ) : EReal)) : (⟨3, ![8, 256, 512]⟩ : Shape).Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨(h c).1.trans ?_, (h c).2⟩) (Value.run m ρ)
  refine (val_main_v71_eq (Value.exitV m c)).trans ?_
  rw [Value.exit_main_arg1, Value.exit_main_arg3, Value.exit_main_arg4, Value.exit_main_arg5, Value.exit_main_arg7, Value.exit_main_arg8,
    Value.exit_main_v0, Value.exit_main_v3_0, Value.exit_main_v3_1]
  unfold Value.reg_main_v3_0 Value.reg_main_v3_1
  rw [RefRegion.reg0, RefRegion.reg1]
  exact out_eq m c (ha c)

end Cert.ReferenceIdeal.RefFinal

end
-- ==== Proof.Alg.lean ====
/- The value claim: under the precondition both programs' results are the attention's result on the same arguments. -/
module

public import proofs.«01_k».proof.Defs
public import proofs.«01_k».proof.Proof.Gen.KernelIdeal
public import proofs.«01_k».proof.Proof.Gen.ReferenceIdeal
public import proofs.«01_k».proof.Proof.Gen.Pre_pre
public import proofs.«01_k».proof.Proof.Pre
public import proofs.«01_k».proof.Proof.Final
public import proofs.«01_k».proof.Proof.RefFinal
public import proofs.«01_k».proof.Proof.TableIdeal

@[expose] public section

noncomputable section

namespace Cert.Alg

open Idealize.ShloMosaic Idealize.SL.Sem Cert.Spec

/-- The precondition at the kernel's memory, read. -/
theorem pre_at (m : (ℓ : Loc Cert.KernelIdeal.nD Cert.KernelIdeal.τ Cert.KernelIdeal.sig) → Buf (Elt Ideal) ℓ)
    (h : Cert.Pre_KernelIdeal_pre (hPre_pre := Cert.Pre_pre.Gen.facts) m) (c : Dev Cert.KernelIdeal.nD) :
    (Cert.KernelIdeal.Step.args m c).Real ∧ ∀ b : Fin 8, ((Cert.KernelIdeal.Step.args m c).ln (ix1 b)).toInt ≤ 2147482624 := by
  obtain ⟨h0, h1, h2, h3, h4, h5, h6, h7, h8⟩ := h c
  exact Cert.PreRead.real (Cert.KernelIdeal.Step.args m c)
    (Prod.ext h0 (Prod.ext h1 (Prod.ext h2 (Prod.ext h3 (Prod.ext h4 (Prod.ext h5 (Prod.ext h6 (Prod.ext h7 h8))))))))

theorem algebraic : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hp hm
  have hk := pre_at m hp
  have same : ∀ c : Dev Cert.KernelIdeal.nD, Cert.ReferenceIdeal.RefFinal.args m' c = Cert.KernelIdeal.Step.args m c := fun c => by
    obtain ⟨e0, e1, e2, e3, e4, e5, e6, e7, e8⟩ := hm c
    unfold Cert.ReferenceIdeal.RefFinal.args Cert.KernelIdeal.Step.args
    congr 1
  refine ⟨fun c => Cert.KernelIdeal.Final.result (Cert.KernelIdeal.Step.args m c),
    Cert.KernelIdeal.Final.run m (Cert.KernelIdeal.Table.okAt m) g (fun c => (hk c).1) (fun c => (hk c).2), ?_⟩
  refine (θ_run Cert.ReferenceIdeal.defs _ _).mono (fun r h c => ⟨(h c).1.trans ?_, (h c).2⟩)
    (Cert.ReferenceIdeal.RefFinal.run m' g' fun c => by rw [same c]; exact (hk c).1)
  rw [same c]
  rfl

end Cert.Alg

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_pre
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.FrameKernel
public import proofs.«01_k».proof.Proof.FrameIdeal
public import proofs.«01_k».proof.Proof.TableKernel
public import proofs.«01_k».proof.Proof.TableIdeal
public import proofs.«01_k».proof.Proof.Alg
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_pre.Gen.facts,
    fun m ρ _ => Cert.Kernel.Gen.frame m ρ (Cert.Kernel.Table.okAt m),
    fun m ρ _ => Cert.KernelIdeal.Gen.frame m ρ (Cert.KernelIdeal.Table.okAt m),
    fun m ρ _ => Cert.KernelIdeal.Gen.frame m ρ (Cert.KernelIdeal.Table.okAt m),
    fun m ρ _ => Cert.ReferenceIdeal.Gen.frame m ρ,
    fun m ρ _ => Cert.ReferenceIdeal.Gen.frame m ρ,
    IdealRules.named_const.statement Cert.KernelIdeal.κ "exp2_scale" .f32 0x3DD53B95#32 _ rfl,
    Cert.Alg.algebraic⟩

end Cert.Proof

end
